-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2048 : Shape := ⟨2, ![256, 2048]⟩
abbrev S2048x2048 : Shape := ⟨2, ![2048, 2048]⟩
abbrev S2048x256 : Shape := ⟨2, ![2048, 256]⟩
abbrev S8x256x256 : Shape := ⟨3, ![8, 256, 256]⟩
abbrev S8 : Shape := ⟨1, ![8]⟩
abbrev S_ : Shape := ⟨0, ![]⟩
abbrev S2048x1024 : Shape := ⟨2, ![2048, 1024]⟩
abbrev S256x1024 : Shape := ⟨2, ![256, 1024]⟩
abbrev S256x256 : Shape := ⟨2, ![256, 256]⟩
abbrev S1x256x256 : Shape := ⟨3, ![1, 256, 256]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S2048x256, .f32⟩
  | .local _ .vmem, ⟨0, _⟩ => ⟨S256x2048, .bf16⟩
  | .local _ .vmem, ⟨1, _⟩ => ⟨S2048x2048, .bf16⟩
  | .local _ .vmem, ⟨2, _⟩ => ⟨S2048x256, .f32⟩
  | .local _ .vmem, ⟨3, _⟩ => ⟨S8x256x256, .bf16⟩
  | .local _ .vmem, ⟨4, _⟩ => ⟨S8x256x256, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_70 : BitVec 32 := 0#32
  let v105 : BitVec 1 := Scalar.cmpi .eq v2 c0_i32_70
  let v106 : BitVec 32 := Scalar.extui v105
  let c0_i32_71 : BitVec 32 := 0#32
  let v107 : BitVec 1 := Scalar.cmpi .ne v106 c0_i32_71
  v107

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_254 : BitVec 32 := 256#32
  let v399 : BitVec 32 := Scalar.muli v2 c256_i32_254
  let v400 : Index := Scalar.indexCast v399
  let c0_255 : Index := 0#32
  ![v400.toNat, 0]
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_72 : BitVec 32 := 0#32
  let v108 : BitVec 1 := Scalar.cmpi .ne v2 c0_i32_72
  let v109 : BitVec 32 := Scalar.extui v108
  let c0_i32_73 : BitVec 32 := 0#32
  let v110 : BitVec 1 := Scalar.cmpi .ne v109 c0_i32_73
  v110

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_259 : BitVec 32 := 0#32
  let c0_i32_260 : BitVec 32 := 0#32
  ![v2.toNat, 0, 0]
def k0_dev8 : Nat :=
  let c0_i32_258 : BitVec 32 := 0#32
  let c0_i32_256 : BitVec 32 := 0#32
  let c1_i32_257 : BitVec 32 := 1#32
  let v399 : BitVec 32 := Scalar.muli c0_i32_256 c1_i32_257
  let v400 : BitVec 32 := Scalar.addi c0_i32_258 v399
  v400.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v116 : BitVec 1 := Scalar.cmpi .eq v2 c1_i32_76
  let v117 : BitVec 32 := Scalar.extui v116
  let c0_i32_77 : BitVec 32 := 0#32
  let v118 : BitVec 1 := Scalar.cmpi .ne v117 c0_i32_77
  v118

def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_254 : BitVec 32 := 256#32
  let v399 : BitVec 32 := Scalar.muli v2 c256_i32_254
  let v400 : Index := Scalar.indexCast v399
  let c0_255 : Index := 0#32
  ![v400.toNat, 0]
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_78 : BitVec 32 := 1#32
  let v119 : BitVec 1 := Scalar.cmpi .ne v2 c1_i32_78
  let v120 : BitVec 32 := Scalar.extui v119
  let c0_i32_79 : BitVec 32 := 0#32
  let v121 : BitVec 1 := Scalar.cmpi .ne v120 c0_i32_79
  v121

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_259 : BitVec 32 := 0#32
  let c0_i32_260 : BitVec 32 := 0#32
  ![v2.toNat, 0, 0]
def k0_dev9 : Nat :=
  let c0_i32_258 : BitVec 32 := 0#32
  let c1_i32_256 : BitVec 32 := 1#32
  let c1_i32_257 : BitVec 32 := 1#32
  let v399 : BitVec 32 := Scalar.muli c1_i32_256 c1_i32_257
  let v400 : BitVec 32 := Scalar.addi c0_i32_258 v399
  v400.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_82 : BitVec 32 := 2#32
  let v127 : BitVec 1 := Scalar.cmpi .eq v2 c2_i32_82
  let v128 : BitVec 32 := Scalar.extui v127
  let c0_i32_83 : BitVec 32 := 0#32
  let v129 : BitVec 1 := Scalar.cmpi .ne v128 c0_i32_83
  v129

def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_254 : BitVec 32 := 256#32
  let v399 : BitVec 32 := Scalar.muli v2 c256_i32_254
  let v400 : Index := Scalar.indexCast v399
  let c0_255 : Index := 0#32
  ![v400.toNat, 0]
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v130 : BitVec 1 := Scalar.cmpi .ne v2 c2_i32_84
  let v131 : BitVec 32 := Scalar.extui v130
  let c0_i32_85 : BitVec 32 := 0#32
  let v132 : BitVec 1 := Scalar.cmpi .ne v131 c0_i32_85
  v132

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_259 : BitVec 32 := 0#32
  let c0_i32_260 : BitVec 32 := 0#32
  ![v2.toNat, 0, 0]
def k0_dev10 : Nat :=
  let c0_i32_258 : BitVec 32 := 0#32
  let c2_i32_256 : BitVec 32 := 2#32
  let c1_i32_257 : BitVec 32 := 1#32
  let v399 : BitVec 32 := Scalar.muli c2_i32_256 c1_i32_257
  let v400 : BitVec 32 := Scalar.addi c0_i32_258 v399
  v400.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_88 : BitVec 32 := 3#32
  let v138 : BitVec 1 := Scalar.cmpi .eq v2 c3_i32_88
  let v139 : BitVec 32 := Scalar.extui v138
  let c0_i32_89 : BitVec 32 := 0#32
  let v140 : BitVec 1 := Scalar.cmpi .ne v139 c0_i32_89
  v140

def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_254 : BitVec 32 := 256#32
  let v399 : BitVec 32 := Scalar.muli v2 c256_i32_254
  let v400 : Index := Scalar.indexCast v399
  let c0_255 : Index := 0#32
  ![v400.toNat, 0]
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_90 : BitVec 32 := 3#32
  let v141 : BitVec 1 := Scalar.cmpi .ne v2 c3_i32_90
  let v142 : BitVec 32 := Scalar.extui v141
  let c0_i32_91 : BitVec 32 := 0#32
  let v143 : BitVec 1 := Scalar.cmpi .ne v142 c0_i32_91
  v143

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_259 : BitVec 32 := 0#32
  let c0_i32_260 : BitVec 32 := 0#32
  ![v2.toNat, 0, 0]
def k0_dev11 : Nat :=
  let c0_i32_258 : BitVec 32 := 0#32
  let c3_i32_256 : BitVec 32 := 3#32
  let c1_i32_257 : BitVec 32 := 1#32
  let v399 : BitVec 32 := Scalar.muli c3_i32_256 c1_i32_257
  let v400 : BitVec 32 := Scalar.addi c0_i32_258 v399
  v400.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_98 : BitVec 32 := 4#32
  let v154 : BitVec 1 := Scalar.cmpi .eq v2 c4_i32_98
  let v155 : BitVec 32 := Scalar.extui v154
  let c0_i32_99 : BitVec 32 := 0#32
  let v156 : BitVec 1 := Scalar.cmpi .ne v155 c0_i32_99
  v156

def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_254 : BitVec 32 := 256#32
  let v399 : BitVec 32 := Scalar.muli v2 c256_i32_254
  let v400 : Index := Scalar.indexCast v399
  let c0_255 : Index := 0#32
  ![v400.toNat, 0]
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_100 : BitVec 32 := 4#32
  let v157 : BitVec 1 := Scalar.cmpi .ne v2 c4_i32_100
  let v158 : BitVec 32 := Scalar.extui v157
  let c0_i32_101 : BitVec 32 := 0#32
  let v159 : BitVec 1 := Scalar.cmpi .ne v158 c0_i32_101
  v159

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_259 : BitVec 32 := 0#32
  let c0_i32_260 : BitVec 32 := 0#32
  ![v2.toNat, 0, 0]
def k0_dev12 : Nat :=
  let c0_i32_258 : BitVec 32 := 0#32
  let c4_i32_256 : BitVec 32 := 4#32
  let c1_i32_257 : BitVec 32 := 1#32
  let v399 : BitVec 32 := Scalar.muli c4_i32_256 c1_i32_257
  let v400 : BitVec 32 := Scalar.addi c0_i32_258 v399
  v400.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_104 : BitVec 32 := 5#32
  let v165 : BitVec 1 := Scalar.cmpi .eq v2 c5_i32_104
  let v166 : BitVec 32 := Scalar.extui v165
  let c0_i32_105 : BitVec 32 := 0#32
  let v167 : BitVec 1 := Scalar.cmpi .ne v166 c0_i32_105
  v167

def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_254 : BitVec 32 := 256#32
  let v399 : BitVec 32 := Scalar.muli v2 c256_i32_254
  let v400 : Index := Scalar.indexCast v399
  let c0_255 : Index := 0#32
  ![v400.toNat, 0]
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_106 : BitVec 32 := 5#32
  let v168 : BitVec 1 := Scalar.cmpi .ne v2 c5_i32_106
  let v169 : BitVec 32 := Scalar.extui v168
  let c0_i32_107 : BitVec 32 := 0#32
  let v170 : BitVec 1 := Scalar.cmpi .ne v169 c0_i32_107
  v170

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_259 : BitVec 32 := 0#32
  let c0_i32_260 : BitVec 32 := 0#32
  ![v2.toNat, 0, 0]
def k0_dev13 : Nat :=
  let c0_i32_258 : BitVec 32 := 0#32
  let c5_i32_256 : BitVec 32 := 5#32
  let c1_i32_257 : BitVec 32 := 1#32
  let v399 : BitVec 32 := Scalar.muli c5_i32_256 c1_i32_257
  let v400 : BitVec 32 := Scalar.addi c0_i32_258 v399
  v400.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_110 : BitVec 32 := 6#32
  let v176 : BitVec 1 := Scalar.cmpi .eq v2 c6_i32_110
  let v177 : BitVec 32 := Scalar.extui v176
  let c0_i32_111 : BitVec 32 := 0#32
  let v178 : BitVec 1 := Scalar.cmpi .ne v177 c0_i32_111
  v178

def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_254 : BitVec 32 := 256#32
  let v399 : BitVec 32 := Scalar.muli v2 c256_i32_254
  let v400 : Index := Scalar.indexCast v399
  let c0_255 : Index := 0#32
  ![v400.toNat, 0]
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_112 : BitVec 32 := 6#32
  let v179 : BitVec 1 := Scalar.cmpi .ne v2 c6_i32_112
  let v180 : BitVec 32 := Scalar.extui v179
  let c0_i32_113 : BitVec 32 := 0#32
  let v181 : BitVec 1 := Scalar.cmpi .ne v180 c0_i32_113
  v181

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_259 : BitVec 32 := 0#32
  let c0_i32_260 : BitVec 32 := 0#32
  ![v2.toNat, 0, 0]
def k0_dev14 : Nat :=
  let c0_i32_258 : BitVec 32 := 0#32
  let c6_i32_256 : BitVec 32 := 6#32
  let c1_i32_257 : BitVec 32 := 1#32
  let v399 : BitVec 32 := Scalar.muli c6_i32_256 c1_i32_257
  let v400 : BitVec 32 := Scalar.addi c0_i32_258 v399
  v400.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_116 : BitVec 32 := 7#32
  let v187 : BitVec 1 := Scalar.cmpi .eq v2 c7_i32_116
  let v188 : BitVec 32 := Scalar.extui v187
  let c0_i32_117 : BitVec 32 := 0#32
  let v189 : BitVec 1 := Scalar.cmpi .ne v188 c0_i32_117
  v189

def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_254 : BitVec 32 := 256#32
  let v399 : BitVec 32 := Scalar.muli v2 c256_i32_254
  let v400 : Index := Scalar.indexCast v399
  let c0_255 : Index := 0#32
  ![v400.toNat, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_118 : BitVec 32 := 7#32
  let v190 : BitVec 1 := Scalar.cmpi .ne v2 c7_i32_118
  let v191 : BitVec 32 := Scalar.extui v190
  let c0_i32_119 : BitVec 32 := 0#32
  let v192 : BitVec 1 := Scalar.cmpi .ne v191 c0_i32_119
  v192

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_259 : BitVec 32 := 0#32
  let c0_i32_260 : BitVec 32 := 0#32
  ![v2.toNat, 0, 0]
def k0_dev15 : Nat :=
  let c0_i32_258 : BitVec 32 := 0#32
  let c7_i32_256 : BitVec 32 := 7#32
  let c1_i32_257 : BitVec 32 := 1#32
  let v399 : BitVec 32 := Scalar.muli c7_i32_256 c1_i32_257
  let v400 : BitVec 32 := Scalar.addi c0_i32_258 v399
  v400.toNat
def k0_off25 (d0 : Dev nD) (c1_i32_120 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.subi v2 c1_i32_120
  let c8_i32_121 : BitVec 32 := 8#32
  let c0_i32_122 : BitVec 32 := 0#32
  let v194 : BitVec 1 := Scalar.cmpi .eq c8_i32_121 c0_i32_122
  let c1_i32_123 : BitVec 32 := 1#32
  let v195 : BitVec 32 := Scalar.select v194 c1_i32_123 c8_i32_121
  let v196 : BitVec 32 := Scalar.remsi v193 v195
  let c0_i32_125 : BitVec 32 := 0#32
  let v198 : BitVec 1 := Scalar.cmpi .slt v196 c0_i32_125
  let c0_i32_126 : BitVec 32 := 0#32
  let v199 : BitVec 1 := Scalar.cmpi .slt v195 c0_i32_126
  let v200 : BitVec 1 := Scalar.xori v198 v199
  let c0_i32_124 : BitVec 32 := 0#32
  let v197 : BitVec 1 := Scalar.cmpi .ne v196 c0_i32_124
  let v201 : BitVec 1 := Scalar.andi v200 v197
  let v202 : BitVec 32 := Scalar.addi v196 v195
  let v203 : BitVec 32 := Scalar.select v201 v202 v196
  ![v203.toNat]
def k0_off26 (d0 : Dev nD) (c1_i32_120 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.subi v2 c1_i32_120
  let c8_i32_121 : BitVec 32 := 8#32
  let c0_i32_122 : BitVec 32 := 0#32
  let v194 : BitVec 1 := Scalar.cmpi .eq c8_i32_121 c0_i32_122
  let c1_i32_123 : BitVec 32 := 1#32
  let v195 : BitVec 32 := Scalar.select v194 c1_i32_123 c8_i32_121
  let v196 : BitVec 32 := Scalar.remsi v193 v195
  let c0_i32_125 : BitVec 32 := 0#32
  let v198 : BitVec 1 := Scalar.cmpi .slt v196 c0_i32_125
  let c0_i32_126 : BitVec 32 := 0#32
  let v199 : BitVec 1 := Scalar.cmpi .slt v195 c0_i32_126
  let v200 : BitVec 1 := Scalar.xori v198 v199
  let c0_i32_124 : BitVec 32 := 0#32
  let v197 : BitVec 1 := Scalar.cmpi .ne v196 c0_i32_124
  let v201 : BitVec 1 := Scalar.andi v200 v197
  let v202 : BitVec 32 := Scalar.addi v196 v195
  let v203 : BitVec 32 := Scalar.select v201 v202 v196
  let c0_i32_129 : BitVec 32 := 0#32
  let c0_i32_130 : BitVec 32 := 0#32
  ![v203.toNat, 0, 0]
def k0_off27 (d0 : Dev nD) (c1_i32_120 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.subi v2 c1_i32_120
  let c8_i32_121 : BitVec 32 := 8#32
  let c0_i32_122 : BitVec 32 := 0#32
  let v194 : BitVec 1 := Scalar.cmpi .eq c8_i32_121 c0_i32_122
  let c1_i32_123 : BitVec 32 := 1#32
  let v195 : BitVec 32 := Scalar.select v194 c1_i32_123 c8_i32_121
  let v196 : BitVec 32 := Scalar.remsi v193 v195
  let c0_i32_125 : BitVec 32 := 0#32
  let v198 : BitVec 1 := Scalar.cmpi .slt v196 c0_i32_125
  let c0_i32_126 : BitVec 32 := 0#32
  let v199 : BitVec 1 := Scalar.cmpi .slt v195 c0_i32_126
  let v200 : BitVec 1 := Scalar.xori v198 v199
  let c0_i32_124 : BitVec 32 := 0#32
  let v197 : BitVec 1 := Scalar.cmpi .ne v196 c0_i32_124
  let v201 : BitVec 1 := Scalar.andi v200 v197
  let v202 : BitVec 32 := Scalar.addi v196 v195
  let v203 : BitVec 32 := Scalar.select v201 v202 v196
  let v212 : Index := Scalar.indexCast v203
  let c0_133 : Index := 0#32
  let c0_134 : Index := 0#32
  ![v212.toNat, 0, 0]
def k0_off28 (d0 : Dev nD) (c1_i32_120 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.subi v2 c1_i32_120
  let c8_i32_121 : BitVec 32 := 8#32
  let c0_i32_122 : BitVec 32 := 0#32
  let v194 : BitVec 1 := Scalar.cmpi .eq c8_i32_121 c0_i32_122
  let c1_i32_123 : BitVec 32 := 1#32
  let v195 : BitVec 32 := Scalar.select v194 c1_i32_123 c8_i32_121
  let v196 : BitVec 32 := Scalar.remsi v193 v195
  let c0_i32_125 : BitVec 32 := 0#32
  let v198 : BitVec 1 := Scalar.cmpi .slt v196 c0_i32_125
  let c0_i32_126 : BitVec 32 := 0#32
  let v199 : BitVec 1 := Scalar.cmpi .slt v195 c0_i32_126
  let v200 : BitVec 1 := Scalar.xori v198 v199
  let c0_i32_124 : BitVec 32 := 0#32
  let v197 : BitVec 1 := Scalar.cmpi .ne v196 c0_i32_124
  let v201 : BitVec 1 := Scalar.andi v200 v197
  let v202 : BitVec 32 := Scalar.addi v196 v195
  let v203 : BitVec 32 := Scalar.select v201 v202 v196
  let c256_i32 : BitVec 32 := 256#32
  let v216 : BitVec 32 := Scalar.muli v203 c256_i32
  let v217 : Index := Scalar.indexCast v216
  let c0_135 : Index := 0#32
  ![v217.toNat, 0]
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_238 : BitVec 32 := 0#32
  let v375 : BitVec 1 := Scalar.cmpi .ne v2 c0_i32_238
  let v376 : BitVec 32 := Scalar.extui v375
  let c0_i32_239 : BitVec 32 := 0#32
  let v377 : BitVec 1 := Scalar.cmpi .ne v376 c0_i32_239
  v377

def k0_off29 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_260 : BitVec 32 := 0#32
  let c0_i32_261 : BitVec 32 := 0#32
  ![v2.toNat, 0, 0]
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_240 : BitVec 32 := 1#32
  let v378 : BitVec 1 := Scalar.cmpi .ne v2 c1_i32_240
  let v379 : BitVec 32 := Scalar.extui v378
  let c0_i32_241 : BitVec 32 := 0#32
  let v380 : BitVec 1 := Scalar.cmpi .ne v379 c0_i32_241
  v380

def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_260 : BitVec 32 := 0#32
  let c0_i32_261 : BitVec 32 := 0#32
  ![v2.toNat, 0, 0]
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_242 : BitVec 32 := 2#32
  let v381 : BitVec 1 := Scalar.cmpi .ne v2 c2_i32_242
  let v382 : BitVec 32 := Scalar.extui v381
  let c0_i32_243 : BitVec 32 := 0#32
  let v383 : BitVec 1 := Scalar.cmpi .ne v382 c0_i32_243
  v383

def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_260 : BitVec 32 := 0#32
  let c0_i32_261 : BitVec 32 := 0#32
  ![v2.toNat, 0, 0]
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_244 : BitVec 32 := 3#32
  let v384 : BitVec 1 := Scalar.cmpi .ne v2 c3_i32_244
  let v385 : BitVec 32 := Scalar.extui v384
  let c0_i32_245 : BitVec 32 := 0#32
  let v386 : BitVec 1 := Scalar.cmpi .ne v385 c0_i32_245
  v386

def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_260 : BitVec 32 := 0#32
  let c0_i32_261 : BitVec 32 := 0#32
  ![v2.toNat, 0, 0]
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_246 : BitVec 32 := 4#32
  let v387 : BitVec 1 := Scalar.cmpi .ne v2 c4_i32_246
  let v388 : BitVec 32 := Scalar.extui v387
  let c0_i32_247 : BitVec 32 := 0#32
  let v389 : BitVec 1 := Scalar.cmpi .ne v388 c0_i32_247
  v389

def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_260 : BitVec 32 := 0#32
  let c0_i32_261 : BitVec 32 := 0#32
  ![v2.toNat, 0, 0]
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_248 : BitVec 32 := 5#32
  let v390 : BitVec 1 := Scalar.cmpi .ne v2 c5_i32_248
  let v391 : BitVec 32 := Scalar.extui v390
  let c0_i32_249 : BitVec 32 := 0#32
  let v392 : BitVec 1 := Scalar.cmpi .ne v391 c0_i32_249
  v392

def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_260 : BitVec 32 := 0#32
  let c0_i32_261 : BitVec 32 := 0#32
  ![v2.toNat, 0, 0]
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_250 : BitVec 32 := 6#32
  let v393 : BitVec 1 := Scalar.cmpi .ne v2 c6_i32_250
  let v394 : BitVec 32 := Scalar.extui v393
  let c0_i32_251 : BitVec 32 := 0#32
  let v395 : BitVec 1 := Scalar.cmpi .ne v394 c0_i32_251
  v395

def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_260 : BitVec 32 := 0#32
  let c0_i32_261 : BitVec 32 := 0#32
  ![v2.toNat, 0, 0]
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_252 : BitVec 32 := 7#32
  let v396 : BitVec 1 := Scalar.cmpi .ne v2 c7_i32_252
  let v397 : BitVec 32 := Scalar.extui v396
  let c0_i32_253 : BitVec 32 := 0#32
  let v398 : BitVec 1 := Scalar.cmpi .ne v397 c0_i32_253
  v398

def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_260 : BitVec 32 := 0#32
  let c0_i32_261 : BitVec 32 := 0#32
  ![v2.toNat, 0, 0]
abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Proto.lean ====
/-
# The protocol of the kernel

Every device multiplies its rows of `x` by all of `w`, eight column blocks of it, and sends block `j` to
device `j`. This module names the buffers' slots and the semaphores, the value of every block, and what each
semaphore hands to the one who waits on it: the barrier of a device hands it, for every other device, the
slot there that this device writes; a receive semaphore hands over the slot written; a send semaphore hands
back the slot read.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.BlocksProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's and the protocol's, whose duties are named by the device that pays -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch. -/
def s₀ : MemSt nD τ sig (Elt F) := ⟨m, fun _ => 0, ρ⟩

/-! ## Buffers, slots and semaphores -/

abbrev xM : Memref sig .tc .vmem S256x2048 .bf16 := Memref.whole cc0_stg0_0
abbrev wM : Memref sig .tc .vmem S2048x2048 .bf16 := Memref.whole cc0_stg1_0
abbrev oM : Memref sig .tc .vmem S2048x256 .f32 := Memref.whole cc0_stg2_0
abbrev sM : Memref sig .tc .vmem S8x256x256 .bf16 := Memref.whole cc0_scratch0
abbrev rM : Memref sig .tc .vmem S8x256x256 .bf16 := Memref.whole cc0_scratch1

theorem slot_inb (j : Dev nD) : ∀ i, (![j.val, 0, 0] : Fin 3 → Nat) i + S1x256x256.size i ≤ S8x256x256.size i := by
  revert j; decide

/-- Slot `j` of a buffer of eight blocks. -/
abbrev slotR (j : Dev nD) : Rect S8x256x256 := Rect.unit ![j.val, 0, 0] S1x256x256.size (slot_inb j)

theorem rows_inb (j : Dev nD) : ∀ i, (![256 * j.val, 0] : Fin 2 → Nat) i + S256x256.size i ≤ S2048x256.size i := by
  revert j; decide

/-- Rows `256 j` up to `256 j + 256` of the output. -/
abbrev rowsR (j : Dev nD) : Rect S2048x256 := Rect.unit ![256 * j.val, 0] S256x256.size (rows_inb j)

abbrev barS : Sem sig := (SemArray.scalar (sig.barrier 0 rfl) : Sems sig S_).sem
abbrev sendS (j : Dev nD) : DmaSem sig := ⟨3 + j.val, by have : j.val < 8 := j.isLt; show 3 + j.val < 19; omega⟩
abbrev recvS (j : Dev nD) : DmaSem sig := ⟨11 + j.val, by have : j.val < 8 := j.isLt; show 11 + j.val < 19; omega⟩

/-- The kernel's own semaphores: send (`false`) and receive (`true`) ones. -/
def osem : Bool × Dev nD → SemLoc sig := fun p => if p.1 then .dma (recvS p.2) else .dma (sendS p.2)
/-- All of the protocol's: the barrier and its own. -/
def csem : Option (Bool × Dev nD) → SemLoc sig := fun o => o.elim (.reg barS) osem

abbrev kcell (ck : Dev nD × Option (Bool × Dev nD)) : GSem nD τ sig := ((ck.1 : Thread nD τ), csem ck.2)
abbrev barCell (c : Dev nD) : GSem nD τ sig := ((c : Thread nD τ), .reg barS)
abbrev sendCell (c j : Dev nD) : GSem nD τ sig := ((c : Thread nD τ), .dma (sendS j))
abbrev recvCell (c j : Dev nD) : GSem nD τ sig := ((c : Thread nD τ), .dma (recvS j))

theorem send_sem (j : Dev nD) (off : Fin 1 → Nat) (h : off = ![j.val]) (p : ∀ i, off i + S1.size i ≤ S8.size i) :
    ((cc0_scratch2.slice (Rect.unit (s := S8) off S1.size p)).squeeze S_ squeezes_S1_S_).sem = sendS j := by
  subst h; revert j; decide

theorem recv_sem (j : Dev nD) (off : Fin 1 → Nat) (h : off = ![j.val]) (p : ∀ i, off i + S1.size i ≤ S8.size i) :
    ((cc0_scratch3.slice (Rect.unit (s := S8) off S1.size p)).squeeze S_ squeezes_S1_S_).sem = recvS j := by
  subst h; revert j; decide

/-- What one block's transfer counts for. -/
abbrev N : ℕ := ((rM.slice (slotR 0) (fun _ => rfl)).squeeze S256x256 squeezes_S1x256x256_S256x256).view.dmaCredit
theorem N_pos : 0 < N := View.dmaCredit_pos _ (by decide)

/-! ## Values -/

def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

theorem cols_inb (h : Fin 2) : ∀ i, (![0, 1024 * h.val] : Fin 2 → Nat) i + S2048x1024.size i ≤ S2048x2048.size i := by
  revert h; decide

/-- Half `h` of the columns of `w`. -/
def wcols (c : Dev nD) (h : Fin 2) : Vec F S2048x1024 .bf16 :=
  wM.view.readAt (Elt F) (Rect.unit (s := S2048x2048) ![0, 1024 * h.val] S2048x1024.size (cols_inb h)).toLoadRect (wstg m ρ c)
/-- The rows of `x`. -/
def xrows (c : Dev nD) : Vec F S256x2048 .bf16 :=
  xM.view.readAt (Elt F) (Rect.unit (s := S256x2048) ![0, 0] S256x2048.size inb_S256x2048_S256x2048_0_0).toLoadRect (xstg m ρ c)

theorem blk_slices (j : Dev nD) : S256x1024.Slices ![0, 256 * (j.val % 4)] S256x256 := by revert j; decide

/-- Device `c`'s product with column block `j` of `w`. -/
def own (c j : Dev nD) : FVec F S256x256 .f32 :=
  extractStridedSlice S256x256 ![0, 256 * (j.val % 4)]
    (k0_pay1 (xrows m ρ c) (wcols m ρ c ⟨j.val / 4, by have : j.val < 8 := j.isLt; omega⟩)) (blk_slices j)
/-- The same as it is sent. -/
def sent (c j : Dev nD) : Vec F S1x256x256 .bf16 :=
  shapeCast S1x256x256 (truncf .bf16 (own m ρ c j) bitsLt_bf16_f32) shapeCasts_S256x256_S1x256x256
/-- Row block `b` of device `c`'s result. -/
def outBlk (c b : Dev nD) : FVec F S256x256 .f32 := if b = c then own m ρ c c else k0_pay19 (sent m ρ b c)

/-! ## The state of one slot -/

/-- Slot `j` of the send buffer of `c`, at any contents. -/
def sendAny (c j : Dev nD) : sProp 𝕄 :=
  iprop(∃ f, ((c : Thread nD τ).loc cc0_scratch0) ↦[(slotR j).set]{fullShare} f)
/-- Slot `j` of the receive buffer of `c`, at any contents; -/
def recvAny (c j : Dev nD) : sProp 𝕄 :=
  iprop(∃ f, ((c : Thread nD τ).loc cc0_scratch1) ↦[(slotR j).set]{fullShare} f)
/-- the two at the value `v`. -/
def sendHolds (c j : Dev nD) (v : Vec F S1x256x256 .bf16) : sProp 𝕄 :=
  iprop(∃ f, ⌜(sM.access (slotR j)).read (Elt F) f = v⌝ ∗ ((c : Thread nD τ).loc cc0_scratch0) ↦[(slotR j).set]{fullShare} f)
def recvHolds (c j : Dev nD) (v : Vec F S1x256x256 .bf16) : sProp 𝕄 :=
  iprop(∃ f, ⌜(rM.access (slotR j)).read (Elt F) f = v⌝ ∗ ((c : Thread nD τ).loc cc0_scratch1) ↦[(slotR j).set]{fullShare} f)

omit [FloatOps F] in
theorem sendHolds_any (c j : Dev nD) (v : Vec F S1x256x256 .bf16) : sendHolds c j v ⊢ (sendAny c j : sProp 𝕄) := by
  unfold sendHolds sendAny; iintro ⟨%f, -, H⟩; iexists f; iexact H
omit [FloatOps F] in
theorem recvHolds_any (c j : Dev nD) (v : Vec F S1x256x256 .bf16) : recvHolds c j v ⊢ (recvAny c j : sProp 𝕄) := by
  unfold recvHolds recvAny; iintro ⟨%f, -, H⟩; iexists f; iexact H

/-! ## The schedule -/

/-- What a semaphore is for. -/
inductive Role | bar | send (j : Dev nD) | recv (j : Dev nD) | other

def role : SemLoc sig → Role
  | .reg _ => .bar
  | .dma q =>
    if h : 11 ≤ q.val then .recv ⟨q.val - 11, by have : q.val < 19 := q.isLt; show q.val - 11 < 8; omega⟩
    else if h' : 3 ≤ q.val then .send ⟨q.val - 3, by have : q.val < 19 := q.isLt; show q.val - 3 < 8; omega⟩ else .other

theorem role_bar : role (.reg barS) = .bar := rfl
theorem role_send (j : Dev nD) : role (.dma (sendS j)) = .send j := by
  have : j.val < 8 := j.isLt
  unfold role; dsimp only
  rw [dif_neg (by omega), dif_pos (by omega)]
  exact congrArg Role.send (Fin.ext (by show 3 + j.val - 3 = j.val; omega))
theorem role_recv (j : Dev nD) : role (.dma (recvS j)) = .recv j := by
  have : j.val < 8 := j.isLt
  unfold role; dsimp only
  rw [dif_pos (by omega)]
  exact congrArg Role.recv (Fin.ext (by show 11 + j.val - 11 = j.val; omega))

def roleDuties (c : Dev nD) : Role → Finset (Dev nD)
  | .bar => Finset.univ.erase c
  | .send j => if j = c then ∅ else {c}
  | .recv j => if j = c then ∅ else {j}
  | .other => ∅
def roleAmount : Role → ℕ
  | .bar => 1
  | _ => N
def rolePay (c d : Dev nD) : Role → sProp 𝕄
  | .bar => recvAny d c
  | .send j => sendAny c j
  | .recv j => recvHolds c j (sent m ρ j c)
  | .other => iprop(emp)

/-- One round. -/
def Rd : Rounds.Schedule (GSem nD τ sig) (Dev nD) 𝕄 where
  duties g r := if r = 0 ∧ g.1.2 = .tc then roleDuties g.1.1 (role g.2) else ∅
  unitless _ := False
  amount g _ _ := roleAmount (role g.2)
  payload g _ d := rolePay m ρ g.1.1 d (role g.2)
  amount_pos g _ _ _ := by
    cases role g.2 <;> first | exact Nat.one_pos | exact N_pos

instance Rd_storable (g : GSem nD τ sig) (r : ℕ) (d : Dev nD) :
    BI.Storable (upEmb : UEmb _ 𝕄) ((Rd (F := F) m ρ).payload g r d) := by
  show BI.Storable upEmb (rolePay m ρ g.1.1 d (role g.2))
  cases role g.2 <;> dsimp only [rolePay] <;> (try unfold recvAny) <;> (try unfold sendAny) <;> (try unfold recvHolds) <;> infer_instance

section Sched
variable (c j d : Dev nD)

theorem duties_bar : (Rd (F := F) m ρ).duties (barCell c) 0 = Finset.univ.erase c := by dsimp only [Rd]; rw [if_pos ⟨rfl, rfl⟩]; rfl
theorem duties_send : (Rd (F := F) m ρ).duties (sendCell c j) 0 = if j = c then ∅ else {c} :=
  by dsimp only [Rd]; rw [if_pos ⟨rfl, rfl⟩, role_send]; rfl
theorem duties_recv : (Rd (F := F) m ρ).duties (recvCell c j) 0 = if j = c then ∅ else {j} :=
  by dsimp only [Rd]; rw [if_pos ⟨rfl, rfl⟩, role_recv]; rfl
theorem duties_later (g : GSem nD τ sig) : ∀ r, 1 ≤ r → (Rd (F := F) m ρ).duties g r = ∅ :=
  fun r hr => by dsimp only [Rd]; rw [if_neg fun h => by omega]
theorem duties_sendSelf : ∀ r, 0 ≤ r → (Rd (F := F) m ρ).duties (sendCell c c) r = ∅ := fun r _ => by
  rcases Nat.eq_zero_or_pos r with rfl | h
  · rw [duties_send, if_pos rfl]
  · exact duties_later m ρ _ r h
theorem duties_recvSelf : ∀ r, 0 ≤ r → (Rd (F := F) m ρ).duties (recvCell c c) r = ∅ := fun r _ => by
  rcases Nat.eq_zero_or_pos r with rfl | h
  · rw [duties_recv, if_pos rfl]
  · exact duties_later m ρ _ r h

theorem amount_bar : (Rd (F := F) m ρ).amount (barCell c) 0 d = 1 := rfl
theorem amount_send : (Rd (F := F) m ρ).amount (sendCell c j) 0 d = N := by
  show roleAmount (role (.dma (sendS j))) = N; rw [role_send]; rfl
theorem amount_recv : (Rd (F := F) m ρ).amount (recvCell c j) 0 d = N := by
  show roleAmount (role (.dma (recvS j))) = N; rw [role_recv]; rfl

theorem expect_bar : (Rd (F := F) m ρ).expect (barCell c) 0 = 7 := by
  unfold Schedule.expect Schedule.amountOf
  rw [duties_bar, Finset.sum_congr rfl fun d _ => amount_bar m ρ c d, Finset.sum_const, smul_eq_mul, mul_one]
  revert c; decide
theorem expect_send (h : j ≠ c) : (Rd (F := F) m ρ).expect (sendCell c j) 0 = N := by
  unfold Schedule.expect Schedule.amountOf; rw [duties_send, if_neg h, Finset.sum_singleton, amount_send]
theorem expect_recv (h : j ≠ c) : (Rd (F := F) m ρ).expect (recvCell c j) 0 = N := by
  unfold Schedule.expect Schedule.amountOf; rw [duties_recv, if_neg h, Finset.sum_singleton, amount_recv]

theorem payload_bar : (Rd (F := F) m ρ).payload (barCell c) 0 d = recvAny d c := rfl
theorem payload_send : (Rd (F := F) m ρ).payload (sendCell c j) 0 d = sendAny c j := by
  show rolePay m ρ c d (role (.dma (sendS j))) = _; rw [role_send]; rfl
theorem payload_recv : (Rd (F := F) m ρ).payload (recvCell c j) 0 d = recvHolds c j (sent m ρ j c) := by
  show rolePay m ρ c d (role (.dma (recvS j))) = _; rw [role_recv]; rfl

theorem rest_bar : bigSep ((Rd (F := F) m ρ).duties (barCell c) 0 \ ∅) (fun d => (Rd (F := F) m ρ).payload (barCell c) 0 d)
    = bigSep (Finset.univ.erase c) fun d => recvAny d c := by
  rw [Finset.sdiff_empty, duties_bar]; rfl
theorem rest_send (h : j ≠ c) : bigSep ((Rd (F := F) m ρ).duties (sendCell c j) 0 \ ∅) (fun d => (Rd (F := F) m ρ).payload (sendCell c j) 0 d)
    = sendAny c j := by
  rw [Finset.sdiff_empty, duties_send, if_neg h, bigSep_singleton, payload_send]
theorem rest_recv (h : j ≠ c) : bigSep ((Rd (F := F) m ρ).duties (recvCell c j) 0 \ ∅) (fun d => (Rd (F := F) m ρ).payload (recvCell c j) 0 d)
    = recvHolds c j (sent m ρ j c) := by
  rw [Finset.sdiff_empty, duties_recv, if_neg h, bigSep_singleton, payload_recv]

end Sched

/-! ## What a device owes, and the levels -/

/-- One unit to the barrier of every device in `S`; -/
def OB (S : Finset (Dev nD)) : CellTallies nD τ sig Unit := ∑ j ∈ S, tallyAt (barCell j) () 1
/-- `c`'s block to every device in `S`. -/
def OR (c : Dev nD) (S : Finset (Dev nD)) : CellTallies nD τ sig Unit := ∑ j ∈ S, tallyAt (recvCell j c) () N
def O₀ (c : Dev nD) : CellTallies nD τ sig Unit := OR c (Finset.univ.erase c) + OB (Finset.univ.erase c)

def L (g : GSem nD τ sig) : Finset Unit := if g.1.2 = .tc then {()} else ∅
/-- Barriers at 1, receive semaphores at 2, everything else at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c j : Dev nD) : lv (recvCell c j) () = 2 := by unfold lv; rw [role_recv]

theorem sum_tally_pos {S : Finset (Dev nD)} {g : Dev nD → GSem nD τ sig} {k : ℕ} {g' : GSem nD τ sig} {u : Unit}
    (h : 0 < (∑ j ∈ S, tallyAt (g j) () k : CellTallies nD τ sig Unit) g' u) : ∃ j ∈ S, g' = g j := by
  rw [Finset.sum_apply, Finsupp.finset_sum_apply] at h
  obtain ⟨j, hj, hne⟩ := Finset.exists_ne_zero_of_sum_ne_zero h.ne'
  refine ⟨j, hj, ?_⟩
  rw [tallyAt_apply] at hne
  by_contra hg
  exact hne (if_neg fun h' => hg h'.1)

theorem O₀_pos {c : Dev nD} {g : GSem nD τ sig} {u : Unit} (h : 0 < O₀ c g u) :
    (∃ j, g = recvCell j c) ∨ ∃ j, g = barCell j := by
  unfold O₀ at h
  rw [Pi.add_apply, Finsupp.add_apply] at h
  rcases Nat.eq_zero_or_pos ((OR c (Finset.univ.erase c)) g u) with h0 | h0
  · rw [h0, Nat.zero_add] at h
    obtain ⟨j, -, e⟩ := sum_tally_pos h
    exact .inr ⟨j, e⟩
  · obtain ⟨j, -, e⟩ := sum_tally_pos h0
    exact .inl ⟨j, e⟩

omit [FloatOps F] in
theorem mayWait_cut (c : Dev nD) (sm : SemLoc sig) (k : ℕ) (O : CellTallies nD τ sig Unit)
    (hs : lv ((c : Thread nD τ), sm) () ≤ k) (hO : ∀ g u, 0 < O g u → ∃ (c' : Dev nD) (sm' : SemLoc sig), g = ((c' : Thread nD τ), sm') ∧ k < lv g u) :
    (levAts L lv : sProp 𝕄) ⊢ MayWait (c : Thread nD τ) sm () O :=
  MayOwe.of_cut (L := L) (lev := lv) k
    (fun p hp => by rw [Finset.mem_singleton.mp hp, L_tc]; exact Finset.mem_singleton_self _)
    (fun g u hg => by obtain ⟨c', sm', rfl, -⟩ := hO g u hg; rw [L_tc]; exact Finset.mem_singleton_self _)
    (fun p hp => by rw [Finset.mem_singleton.mp hp]; exact hs)
    (fun g u hg => by obtain ⟨c', sm', -, h⟩ := hO g u hg; exact h)

omit [FloatOps F] in
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine mayWait_cut c _ 0 _ ?_ ?_
    · unfold lv role; dsimp only; rw [dif_neg (by omega), dif_neg (by omega)]
    · intro g u hg
      rcases O₀_pos hg with ⟨j, rfl⟩ | ⟨j, rfl⟩
      · exact ⟨_, _, rfl, by rw [lv_recv]; decide⟩
      · exact ⟨_, _, rfl, by rw [lv_bar]; decide⟩
  · rw [MayWait_zero]; iintro -; iempintro

omit [FloatOps F] in
theorem mayWait_bar (c : Dev nD) (S : Finset (Dev nD)) :
    (levAts L lv : sProp 𝕄) ⊢ MayWait (c : Thread nD τ) (.reg barS) () (OR c S) :=
  mayWait_cut c _ 1 _ (le_of_eq (lv_bar c)) fun g u hg => by
    obtain ⟨j, -, rfl⟩ := sum_tally_pos hg
    exact ⟨_, _, rfl, by rw [lv_recv]; decide⟩

/-! ## The orders in which the kernel goes through the devices -/

/-- How far `j` is after `c` on the ring. -/
def after (c j : Dev nD) : ℕ := (j.val + 8 - c.val) % 8
/-- The devices still to be signalled after `n` signals; -/
def SgS (c : Dev nD) (n : ℕ) : Finset (Dev nD) := Finset.univ.filter fun j => n < after c j
/-- the blocks still to be made, or the sends still to be awaited, after `n` of them; -/
def SdS (n : ℕ) : Finset (Dev nD) := Finset.univ.filter fun j => n ≤ j.val
/-- the blocks still to come in after `n` have. -/
def RvS (c : Dev nD) (n : ℕ) : Finset (Dev nD) := Finset.univ.filter fun j => n < after j c

theorem SgS_zero (c : Dev nD) : SgS c 0 = Finset.univ.erase c := by revert c; decide
theorem SgS_seven (c : Dev nD) : SgS c 7 = ∅ := by revert c; decide
theorem SgS_mem (c j : Dev nD) (n : ℕ) (h : after c j = n + 1) : j ∈ SgS c n := by
  unfold SgS; rw [Finset.mem_filter]; exact ⟨Finset.mem_univ _, by omega⟩
theorem after_inj_right {c j j' : Dev nD} (h : after c j = after c j') : j = j' := by revert c j j'; decide
theorem after_inj_left {c j j' : Dev nD} (h : after j c = after j' c) : j = j' := by revert c j j'; decide
theorem SgS_erase (c j : Dev nD) (n : ℕ) (h : after c j = n + 1) : (SgS c n).erase j = SgS c (n + 1) := by
  ext i
  unfold SgS
  rw [Finset.mem_erase, Finset.mem_filter, Finset.mem_filter]
  constructor
  · rintro ⟨hne, -, hlt⟩
    have : after c i ≠ n + 1 := fun h' => hne (after_inj_right (h'.trans h.symm))
    exact ⟨Finset.mem_univ _, by omega⟩
  · rintro ⟨-, hlt⟩
    exact ⟨fun e => by subst e; omega, Finset.mem_univ _, by omega⟩

theorem RvS_zero (c : Dev nD) : RvS c 0 = Finset.univ.erase c := by revert c; decide
theorem RvS_seven (c : Dev nD) : RvS c 7 = ∅ := by revert c; decide
theorem RvS_mem (c j : Dev nD) (n : ℕ) (h : after j c = n + 1) : j ∈ RvS c n := by
  unfold RvS; rw [Finset.mem_filter]; exact ⟨Finset.mem_univ _, by omega⟩
theorem RvS_erase (c j : Dev nD) (n : ℕ) (h : after j c = n + 1) : (RvS c n).erase j = RvS c (n + 1) := by
  ext i
  unfold RvS
  rw [Finset.mem_erase, Finset.mem_filter, Finset.mem_filter]
  constructor
  · rintro ⟨hne, -, hlt⟩
    have : after i c ≠ n + 1 := fun h' => hne (after_inj_left (h'.trans h.symm))
    exact ⟨Finset.mem_univ _, by omega⟩
  · rintro ⟨-, hlt⟩
    exact ⟨fun e => by subst e; omega, Finset.mem_univ _, by omega⟩
theorem RvS_ne (c j : Dev nD) (n : ℕ) (h : after j c = n + 1) : j ≠ c := by
  rintro rfl
  have : ∀ j : Dev nD, after j j = 0 := by decide
  rw [this] at h; omega

theorem SdS_zero : SdS 0 = Finset.univ := by decide
theorem SdS_eight : SdS 8 = ∅ := by decide
theorem SdS_mem (j : Dev nD) : j ∈ SdS j.val := by
  unfold SdS; rw [Finset.mem_filter]; exact ⟨Finset.mem_univ _, le_rfl⟩
theorem SdS_erase (j : Dev nD) : (SdS j.val).erase j = SdS (j.val + 1) := by
  ext i
  unfold SdS
  rw [Finset.mem_erase, Finset.mem_filter, Finset.mem_filter]
  constructor
  · rintro ⟨hne, -, hle⟩
    have : i.val ≠ j.val := fun h => hne (Fin.ext h)
    exact ⟨Finset.mem_univ _, by omega⟩
  · rintro ⟨-, hle⟩
    exact ⟨fun e => by subst e; omega, Finset.mem_univ _, by omega⟩

/-- Handing one element over to the finished ones. -/
theorem compl_erase {S T : Finset (Dev nD)} {j : Dev nD} (hj : j ∈ S) (h : S.erase j = T) :
    Finset.univ \ T = insert j (Finset.univ \ S) := by
  subst h
  ext i
  simp only [Finset.mem_sdiff, Finset.mem_univ, true_and, Finset.mem_erase, Finset.mem_insert, not_and]
  by_cases e : i = j
  · simp [e]
  · simp [e]

end Cert.BlocksProof
-- ==== Proof.Steps.lean ====
/-
# The kernel's steps

What a device holds before and after each kind of step the kernel repeats: a signal, the barrier's wait, filling
a slot, keeping a block or sending it, taking a block in, awaiting a send. Each is proved once, for any device
and any block.
-/
module

public import proofs.«01_k».proof.Proof.Proto

@[expose] public section

noncomputable section

namespace Cert.BlocksProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Bool × Dev nD) → ℕ)

omit [FloatOps F] in
/-- One of a family, and the others. -/
theorem take_one {I : Type} [DecidableEq I] {s : Finset I} {i : I} (h : i ∈ s) {Φ : I → sProp 𝕄} :
    bigSep s Φ = iprop(Φ i ∗ bigSep (s.erase i) Φ) := bigSep_erase h
omit [FloatOps F] in
/-- One more of a family. -/
theorem put_one {I : Type} [DecidableEq I] {s : Finset I} {i : I} (h : i ∉ s) {Φ : I → sProp 𝕄} :
    bigSep (insert i s) Φ = iprop(Φ i ∗ bigSep s Φ) := bigSep_insert h
omit [FloatOps F] in
/-- One of a family, the others dropped. -/
theorem read_one {I : Type} [DecidableEq I] {s : Finset I} {i : I} (h : i ∈ s) {Φ : I → sProp 𝕄} :
    (bigSep s Φ : sProp 𝕄) ⊢ Φ i := bigSep_elim h

/-! ## What every step may read: the invariants, the reached rounds, the levels -/

def records : sProp 𝕄 :=
  iprop((bigSep Finset.univ fun ck => cellInv ER (Rd m ρ) (K ck) (kcell ck))
    ∗ (bigSep Finset.univ fun ck => reached ER (kcell ck) 0) ∗ levAts L lv)

instance records_persistent : BI.Persistent (records (F := F) m ρ K) := by unfold records; infer_instance

theorem records_inv (ck : Dev nD × Option (Bool × Dev nD)) : records m ρ K ⊢ cellInv ER (Rd m ρ) (K ck) (kcell ck) := by
  unfold records; iintro ⟨H, -, -⟩; iapply (read_one (Finset.mem_univ ck) (Φ := fun ck => cellInv ER (Rd m ρ) (K ck) (kcell ck))); iexact H
theorem records_reached (ck : Dev nD × Option (Bool × Dev nD)) : records m ρ K ⊢ (reached ER (kcell ck) 0 : sProp 𝕄) := by
  unfold records; iintro ⟨-, H, -⟩; iapply (read_one (Finset.mem_univ ck) (Φ := fun ck => (reached ER (kcell ck) 0 : sProp 𝕄))); iexact H
theorem records_lev : records m ρ K ⊢ (levAts L lv : sProp 𝕄) := by
  unfold records; iintro ⟨-, -, H⟩; iexact H

def owesE (c : Dev nD) (O : CellTallies nD τ sig Unit) : sProp 𝕄 := iprop(∃ W, owes (c : Thread nD τ) O W)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem lift_bind {α β : Type} (e : TpuEff nD τ sig (Elt F) Λ₀ .tc β) (k : β → Prog (TpuEff nD τ sig (Elt F) Λ₀ .tc) α) :
    (Prog.lift e >>= k) = .op e k := by simp only [Prog.lift, Prog.bind_op, Prog.bind_ret]

/-- A branch of the program, by cases on what its condition says. -/
theorem wp_dite {C D : Prop} [Decidable C] (hC : C ↔ D) {c : Dev nD} {α : Type} {A : C → Prog (TpuEff nD τ sig (Elt F) Λ₀ .tc) α}
    {B : ¬C → Prog (TpuEff nD τ sig (Elt F) Λ₀ .tc) α} {Q : α → sProp 𝕄} {P : sProp 𝕄}
    (hA : ∀ h, D → (P ⊢ WP c (A h) Q)) (hB : ∀ h, ¬D → (P ⊢ WP c (B h) Q)) : P ⊢ WP c (dite C A B) Q := by
  by_cases h : C
  · rw [dif_pos h]; exact hA h (hC.mp h)
  · rw [dif_neg h]; exact hB h (fun d => h (hC.mpr d))

/-! ## The signals and the barrier's wait -/

/-- Before the signals after the `n`-th: for every device still to be signalled its token and the slot that
    device is to write. -/
def Sig (c : Dev nD) (n : ℕ) (Fr : sProp 𝕄) : sProp 𝕄 :=
  iprop(records m ρ K ∗ owesE c (OR c (Finset.univ.erase c) + OB (SgS c n))
    ∗ (bigSep (SgS c n) fun j => iprop(dutyTok ER (barCell j) 0 c ∗ recvAny c j)) ∗ Fr)

theorem OB_erase {S T : Finset (Dev nD)} {j : Dev nD} (hj : j ∈ S) (h : S.erase j = T) :
    OB S = OB T + tallyAt (barCell j) () 1 := by
  subst h; unfold OB; rw [Finset.sum_erase_add _ _ hj]
theorem OR_erase {c : Dev nD} {S T : Finset (Dev nD)} {j : Dev nD} (hj : j ∈ S) (h : S.erase j = T) :
    OR c S = OR c T + tallyAt (recvCell j c) () N := by
  subst h; unfold OR; rw [Finset.sum_erase_add _ _ hj]

theorem signal_step (c j : Dev nD) (n : ℕ) (h : after c j = n + 1) {dst : Dev nD} (hd : dst = j) {α : Type} {Q : α → sProp 𝕄}
    {k : PUnit → Prog (TpuEff nD τ sig (Elt F) Λ₀ .tc) α} {Fr : sProp 𝕄} (hk : Sig m ρ K c (n + 1) Fr ⊢ WP c (k ⟨⟩) Q) :
    Sig m ρ K c n Fr ⊢ WP c (semSignalWord dst barS 1#32 >>= k) Q := by
  subst hd
  have hne : c ≠ dst := by
    rintro rfl
    have : ∀ j : Dev nD, after j j = 0 := by decide
    rw [this] at h; omega
  simp only [semSignalWord, Prog.bind_op, Prog.bind_ret]
  unfold Sig owesE
  rw [OB_erase (SgS_mem c dst n h) (SgS_erase c dst n h), take_one (SgS_mem c dst n h), SgS_erase c dst n h, ← add_assoc]
  iintro ⟨#HR, ⟨%W, HO⟩, ⟨⟨Ht, Hs⟩, Hrest⟩, HF⟩
  iapply (Rounds.wp_signal 𝒱₀ ER (Rd m ρ) (c : Thread nD τ) none (dst := (dst : Thread nD τ)) (κ := K (dst, none))
      (d := c) (by rw [duties_bar]; exact Finset.mem_erase.mpr ⟨hne, Finset.mem_univ _⟩)
      ((amount_bar m ρ dst c).trans (by decide)) () (OR c (Finset.univ.erase c) + OB (SgS c (n + 1))) rfl) $$ [HO Ht Hs]
  · isplitr; · iapply (records_inv m ρ K (dst, none)); iexact HR
    isplitl [HO]; · iexact HO
    isplitl [Ht]; · iexact Ht
    isplitl [Hs]; · rw [payload_bar]; iexact Hs
    iapply (records_reached m ρ K (dst, none)); iexact HR
  iintro HO
  iapply hk
  unfold Sig owesE
  isplitr; · iexact HR
  isplitl [HO]; · iexists W; iexact HO
  isplitl [Hrest] <;> iassumption

/-- After the barrier: of every other device the slot this one writes. -/
def Met (c : Dev nD) (Fr : sProp 𝕄) : sProp 𝕄 :=
  iprop(records m ρ K ∗ owesE c (OR c (Finset.univ.erase c)) ∗ (bigSep (Finset.univ.erase c) fun d => recvAny d c)
    ∗ semVal (barCell c) 0 ∗ Fr)

theorem bar_step (c : Dev nD) {α : Type} {Q : α → sProp 𝕄}
    {k : PUnit → Prog (TpuEff nD τ sig (Elt F) Λ₀ .tc) α} {Fr : sProp 𝕄} (hk : Met m ρ K c Fr ⊢ WP c (k ⟨⟩) Q) :
    Sig m ρ K c 7 iprop((cred (tallyAt (barCell c) () 7) ∗ atPos ER (barCell c) 0 ∅ 0) ∗ Fr) ⊢ WP c (semWaitWord barS 7#32 >>= k) Q := by
  simp only [semWaitWord, Prog.bind_op, Prog.bind_ret]
  unfold Sig owesE
  rw [SgS_seven, show OB ∅ = 0 from Finset.sum_empty, add_zero]
  iintro ⟨#HR, ⟨%W, HO⟩, -, ⟨Hc, Hat⟩, HF⟩
  iapply (Rounds.wp_wait_rest_token 𝒱₀ ER (Rd m ρ) (c : Thread nD τ) none (κ := K (c, none))
      (wpE_semWait_eq 𝒱₀ (c : Thread nD τ) none Set.univ) (Set.mem_univ _) () (O := OR c (Finset.univ.erase c)) (W := W) (R := 0) (m := 0) (T := ∅)
      (by rw [expect_bar]; decide)) $$ [Hc HO Hat]
  · isplitr; · iapply (records_inv m ρ K (c, none)); iexact HR
    isplitl [Hc]; · iexact Hc
    isplitl [HO]; · iexact HO
    isplitr; · iapply (mayWait_bar c); iapply (records_lev m ρ K); iexact HR
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iapply (records_inv m ρ K (c, none)); iexact HR
    iexact Hat
  iapply hk
  unfold Met owesE
  isplitr; · iexact HR
  isplitl [HO]; · iexists _; iexact HO
  isplitl [Hp]; · iexact Hp
  isplitl [Hz] <;> iassumption

/-! ## The output buffer -/

/-- The output buffer of `c`, right in the row blocks `P`. -/
def outSt (c : Dev nD) (P : Dev nD → Prop) : sProp 𝕄 :=
  iprop(∃ f, ⌜∀ b, P b → (oM.access (rowsR b)).read (Elt F) f = outBlk m ρ c b⌝ ∗ ((c : Thread nD τ).loc cc0_stg2_0) ↦{fullShare} f)

theorem outSt_mono (c : Dev nD) {P P' : Dev nD → Prop} (h : ∀ b, P' b → P b) : outSt m ρ c P ⊢ outSt m ρ c P' := by
  unfold outSt; iintro ⟨%f, %hf, H⟩; iexists f; isplitr; · ipureintro; exact fun b hb => hf b (h b hb)
  iexact H

theorem rows_disjoint {b b' : Dev nD} (h : b ≠ b') : Disjoint (rowsR b).set (rowsR b').set :=
  Ring.lead_disjoint (s := S2048x256) (0 : Fin 2) 256 (fun b : Dev nD => ![256 * b.val, 0]) S256x256.size rows_inb (fun _ => rfl) rfl b b' h

/-- Writing row block `j` leaves the others as they were. -/
theorem read_write_rows {b j : Dev nD} (h : b ≠ j) (f : (cc0_stg2_0 : Ref sig .tc).ty.Contents (Elt F)) (v : FVec F S256x256 .f32) :
    (oM.access (rowsR b)).read (Elt F) ((oM.access (rowsR j)).write (Elt F) f v Finset.univ) = (oM.access (rowsR b)).read (Elt F) f := by
  refine View.read_congr fun i hi => View.write_of_not_mem _ _ _ fun hj => ?_
  rw [View.setOn_univ] at hj
  have hi' : i ∈ (rowsR b).set := by rw [← View.set_slice_whole cc0_stg2_0 (rowsR b)]; exact hi
  have hj' : i ∈ (rowsR j).set := by rw [← View.set_slice_whole cc0_stg2_0 (rowsR j)]; exact hj
  exact (Finset.disjoint_left.mp (rows_disjoint h)) hi' hj'

/-- A load of the rows it then stores over, and the store. -/
theorem out_write (c j : Dev nD) {P P' : Dev nD → Prop} (hP : ∀ b, P' b → P b ∨ b = j) {v : FVec F S256x256 .f32}
    (hv : v = outBlk m ρ c j) {off : Fin 2 → Nat} (ho : off = ![256 * j.val, 0]) {p q : ∀ i, off i + S256x256.size i ≤ S2048x256.size i}
    {hl hx hm} {α : Type} {Q : α → sProp 𝕄} {k : Prog (TpuEff nD τ sig (Elt F) Λ₀ .tc) α} {Fr : sProp 𝕄}
    (hk : iprop(outSt m ρ c P' ∗ Fr) ⊢ WP c k Q) :
    iprop(outSt m ρ c P ∗ Fr) ⊢ WP c (Prog.lift (.load oM (Rect.unit (s := S2048x256) off S256x256.size p).toLoadRect hl)
      >>= fun _ => Prog.lift (.store oM (Rect.unit (s := S2048x256) off S256x256.size q) v Finset.univ hx hm) >>= fun _ => k) Q := by
  subst ho hv
  simp only [lift_bind]
  unfold outSt
  iintro ⟨⟨%f, %hf, H⟩, HF⟩
  iapply (wp_load 𝒱₀ (c : Thread nD τ) none Set.univ (m := oM) (Finset.subset_univ _)) $$ H; iintro H
  iapply (wp_store 𝒱₀ (c : Thread nD τ) none Set.univ (m := oM) (r := rowsR j) (Mk := Finset.univ) (Finset.subset_univ _)) $$ H; iintro H
  iapply hk
  unfold outSt
  isplitl [H]
  · iexists ((oM.access (rowsR j)).write (Elt F) f (outBlk m ρ c j) Finset.univ)
    isplitr
    · ipureintro
      intro b hb
      by_cases hbj : b = j
      · subst hbj; exact View.read_write_univ _ _
      · exact (read_write_rows hbj f _).trans (hf b ((hP b hb).resolve_right hbj))
    · iexact H
  · iexact HF

/-! ## Filling a slot, keeping a block, sending a block -/

theorem slot_set_send (j : Dev nD) : (sM.access (slotR j)).set = (slotR j).set := View.set_slice_whole cc0_scratch0 _
theorem slot_set_recv (j : Dev nD) : (rM.access (slotR j)).set = (slotR j).set := View.set_slice_whole cc0_scratch1 _

abbrev xPts (c : Dev nD) : sProp 𝕄 := iprop(((c : Thread nD τ).loc cc0_stg0_0) ↦{fullShare} xstg m ρ c)
abbrev wPts (c : Dev nD) : sProp 𝕄 := iprop(((c : Thread nD τ).loc cc0_stg1_0) ↦{fullShare} wstg m ρ c)

/-- What sending block `j` takes besides the slot it is in. -/
def xfer (c j : Dev nD) : sProp 𝕄 :=
  if j = c then iprop(emp) else iprop(dutyTok ER (sendCell c j) 0 c ∗ dutyTok ER (recvCell j c) 0 c ∗ recvAny j c)
/-- What is left of it: the device's own slot, or the right to wait for the slot sent. -/
def gone (c j : Dev nD) : sProp 𝕄 := if j = c then sendAny c c else cred (tallyAt (sendCell c j) () N)

/-- Before block `n` is made. -/
def Snd (c : Dev nD) (n : ℕ) (Fr : sProp 𝕄) : sProp 𝕄 :=
  iprop(outSt m ρ c (fun b => b = c ∧ c.val < n) ∗ records m ρ K ∗ xPts m ρ c ∗ wPts m ρ c ∗ owesE c (OR c ((SdS n).erase c))
    ∗ (bigSep (SdS n) fun j => iprop(sendAny c j ∗ xfer c j)) ∗ (bigSep (Finset.univ \ SdS n) (gone c)) ∗ Fr)
/-- Block `j` is in its slot; the output is right as before block `n`. -/
def Mid (c j : Dev nD) (n : ℕ) (Fr : sProp 𝕄) : sProp 𝕄 :=
  iprop(outSt m ρ c (fun b => b = c ∧ c.val < n) ∗ records m ρ K ∗ xPts m ρ c ∗ wPts m ρ c ∗ owesE c (OR c ((SdS j.val).erase c))
    ∗ (sendHolds c j (sent m ρ c j) ∗ xfer c j)
    ∗ (bigSep (SdS (j.val + 1)) fun j => iprop(sendAny c j ∗ xfer c j)) ∗ (bigSep (Finset.univ \ SdS j.val) (gone c)) ∗ Fr)

theorem load_x (c : Dev nD) (n : ℕ) {p} {hl} {α : Type} {Q : α → sProp 𝕄} {Fr : sProp 𝕄}
    {k : Vec F S256x2048 .bf16 → Prog (TpuEff nD τ sig (Elt F) Λ₀ .tc) α} (hk : Snd m ρ K c n Fr ⊢ WP c (k (xrows m ρ c)) Q) :
    Snd m ρ K c n Fr ⊢ WP c (Prog.lift (.load xM (Rect.unit (s := S256x2048) ![0, 0] S256x2048.size p).toLoadRect hl) >>= k) Q := by
  simp only [lift_bind]
  unfold Snd
  iintro ⟨Ho, #HR, Hx, Hrest⟩
  iapply (wp_load 𝒱₀ (c : Thread nD τ) none Set.univ (m := xM) (Finset.subset_univ _)) $$ Hx; iintro Hx
  iapply hk
  unfold Snd
  isplitl [Ho]; · iexact Ho
  isplitr; · iexact HR
  isplitl [Hx] <;> iassumption

theorem load_w (c : Dev nD) (n : ℕ) (h : Fin 2) {off : Fin 2 → Nat} (ho : off = ![0, 1024 * h.val]) {p} {hl} {α : Type} {Q : α → sProp 𝕄} {Fr : sProp 𝕄}
    {k : Vec F S2048x1024 .bf16 → Prog (TpuEff nD τ sig (Elt F) Λ₀ .tc) α} (hk : Snd m ρ K c n Fr ⊢ WP c (k (wcols m ρ c h)) Q) :
    Snd m ρ K c n Fr ⊢ WP c (Prog.lift (.load wM (Rect.unit (s := S2048x2048) off S2048x1024.size p).toLoadRect hl) >>= k) Q := by
  subst ho
  simp only [lift_bind]
  unfold Snd
  iintro ⟨Ho, #HR, Hx, Hw, Hrest⟩
  iapply (wp_load 𝒱₀ (c : Thread nD τ) none Set.univ (m := wM) (Finset.subset_univ _)) $$ Hw; iintro Hw
  iapply hk
  unfold Snd
  isplitl [Ho]; · iexact Ho
  isplitr; · iexact HR
  isplitl [Hx]; · iexact Hx
  isplitl [Hw] <;> iassumption

/-- Block `j` goes into its slot: a load of the slot and the store over it. -/
theorem slot_step (c j : Dev nD) {v : Vec F S1x256x256 .bf16} (hv : v = sent m ρ c j) {off : Fin 3 → Nat} (ho : off = ![j.val, 0, 0])
    {p q : ∀ i, off i + S1x256x256.size i ≤ S8x256x256.size i} {hl hx hm} {α : Type} {Q : α → sProp 𝕄} {Fr : sProp 𝕄}
    {k : Prog (TpuEff nD τ sig (Elt F) Λ₀ .tc) α} (hk : Mid m ρ K c j j.val Fr ⊢ WP c k Q) :
    Snd m ρ K c j.val Fr ⊢ WP c (Prog.lift (.load sM (Rect.unit (s := S8x256x256) off S1x256x256.size p).toLoadRect hl)
      >>= fun _ => Prog.lift (.store sM (Rect.unit (s := S8x256x256) off S1x256x256.size q) v Finset.univ hx hm) >>= fun _ => k) Q := by
  subst ho hv
  simp only [lift_bind]
  unfold Snd
  rw [take_one (SdS_mem j), SdS_erase j]
  unfold sendAny
  iintro ⟨Ho, #HR, Hx, Hw, HO, ⟨⟨⟨%f, Hs⟩, Hxf⟩, Hrest⟩, Hg⟩
  iapply (wp_load_rect 𝒱₀ (c : Thread nD τ) none Set.univ (m := sM) (r := slotR j) (le_of_eq (slot_set_send j))) $$ Hs; iintro Hs
  iapply (wp_store 𝒱₀ (c : Thread nD τ) none Set.univ (m := sM) (r := slotR j) (Mk := Finset.univ) (le_of_eq (slot_set_send j))) $$ Hs; iintro Hs
  iapply hk
  unfold Mid sendHolds
  isplitl [Ho]; · iexact Ho
  isplitr; · iexact HR
  isplitl [Hx]; · iexact Hx
  isplitl [Hw]; · iexact Hw
  isplitl [HO]; · iexact HO
  isplitl [Hs Hxf]
  · isplitl [Hs]
    · iexists ((sM.access (slotR j)).write (Elt F) f (sent m ρ c j) Finset.univ)
      isplitr
      · ipureintro; exact View.read_write_univ _ _
      · iexact Hs
    · iexact Hxf
  isplitl [Hrest]; · iexact Hrest
  iexact Hg

/-- The block of the device itself goes to its rows of the output. -/
theorem own_step (c j : Dev nD) (e : j = c) {v : FVec F S256x256 .f32} (hv : v = own m ρ c j)
    {off : Fin 2 → Nat} (ho : off = ![256 * c.val, 0]) {p q : ∀ i, off i + S256x256.size i ≤ S2048x256.size i}
    {hl hx hm} {α : Type} {Q : α → sProp 𝕄} {k : Prog (TpuEff nD τ sig (Elt F) Λ₀ .tc) α} {Fr : sProp 𝕄}
    (hk : Mid m ρ K c j (j.val + 1) Fr ⊢ WP c k Q) :
    Mid m ρ K c j j.val Fr ⊢ WP c (Prog.lift (.load oM (Rect.unit (s := S2048x256) off S256x256.size p).toLoadRect hl)
      >>= fun _ => Prog.lift (.store oM (Rect.unit (s := S2048x256) off S256x256.size q) v Finset.univ hx hm) >>= fun _ => k) Q := by
  unfold Mid at hk ⊢
  refine out_write m ρ c c (fun b hb => .inr hb.1) ?_ ho hk
  rw [hv, e, outBlk, if_pos rfl]

/-- No other block does. -/
theorem own_skip (c j : Dev nD) (e : ¬j = c) {α : Type} {Q : α → sProp 𝕄} {k : Prog (TpuEff nD τ sig (Elt F) Λ₀ .tc) α} {Fr : sProp 𝕄}
    (hk : Mid m ρ K c j (j.val + 1) Fr ⊢ WP c k Q) : Mid m ρ K c j j.val Fr ⊢ WP c k Q := by
  unfold Mid at hk ⊢
  iintro ⟨Ho, H⟩
  iapply hk
  isplitl [Ho]
  · iapply (outSt_mono m ρ c (P := fun b => b = c ∧ c.val < j.val)
      (fun b hb => ⟨hb.1, by have : c.val ≠ j.val := fun h => e (Fin.ext h.symm); have := hb.2; omega⟩)); iexact Ho
  · iexact H

abbrev slotM (M : Memref sig .tc .vmem S8x256x256 .bf16) (off : Fin 3 → Nat) (p : ∀ i, off i + S1x256x256.size i ≤ S8x256x256.size i) :
    Memref sig .tc .vmem S256x256 .bf16 :=
  (M.slice (Rect.unit (s := S8x256x256) off S1x256x256.size p) (fun _ => rfl)).squeeze S256x256 squeezes_S1x256x256_S256x256

theorem set_slot_send (j : Dev nD) (p) : (slotM sM ![j.val, 0, 0] p).view.set = (slotR j).set :=
  (View.set_reshape _ _).trans (slot_set_send j)
theorem set_slot_recv (j : Dev nD) (p) : (slotM rM ![j.val, 0, 0] p).view.set = (slotR j).set :=
  (View.set_reshape _ _).trans (slot_set_recv j)

omit [FloatOps F] in
/-- What slot `c` holds once slot `j` of another device has been copied into it. -/
theorem copied (c j : Dev nD) (p q) (fs : (cc0_scratch0 : Ref sig .tc).ty.Contents (Elt F)) (fd : (cc0_scratch1 : Ref sig .tc).ty.Contents (Elt F)) :
    (rM.access (slotR c)).read (Elt F) ((slotM rM ![c.val, 0, 0] q).view.write (Elt F) fd ((slotM sM ![j.val, 0, 0] p).view.read (Elt F) fs) Finset.univ)
      = (sM.access (slotR j)).read (Elt F) fs := by
  have h := View.read_write_univ (v := (slotM rM ![c.val, 0, 0] q).view) fd ((slotM sM ![j.val, 0, 0] p).view.read (Elt F) fs)
  funext y
  have hy := congrFun h ((Shape.reshapeEquiv squeezes_S1x256x256_S256x256.numel_eq).symm y)
  have e1 : ∀ (v : View sig .tc .vmem S1x256x256 .bf16) (g : v.ty.Contents (Elt F)),
      (v.reshape S256x256 squeezes_S1x256x256_S256x256.numel_eq).read (Elt F) g ((Shape.reshapeEquiv squeezes_S1x256x256_S256x256.numel_eq).symm y) = v.read (Elt F) g y := by
    intro v g
    show v.read (Elt F) g (Shape.reshapeEquiv squeezes_S1x256x256_S256x256.numel_eq ((Shape.reshapeEquiv squeezes_S1x256x256_S256x256.numel_eq).symm y)) = _
    rw [Equiv.apply_symm_apply]
  exact (e1 _ _).symm.trans (hy.trans (e1 _ _))

/-- Any other block is sent to its device. -/
theorem xfer_step (c j : Dev nD) (e : ¬j = c) {n : Dev nD} (hn : n = j) {sS sR : DmaSem sig} (hS : sS = sendS j) (hR : sR = recvS c)
    {off off' : Fin 3 → Nat} (ho : off = ![j.val, 0, 0]) (ho' : off' = ![c.val, 0, 0])
    {p q hsc hsrc hdst hsem} {α : Type} {Q : α → sProp 𝕄} {k : Prog (TpuEff nD τ sig (Elt F) Λ₀ .tc) α} {Fr : sProp 𝕄}
    (hk : Snd m ρ K c (j.val + 1) Fr ⊢ WP c k Q) :
    Mid m ρ K c j (j.val + 1) Fr ⊢ WP c (Prog.lift (.enqueueDma (slotM sM off p)
        (.remote (Dev.tc n : Thread nD τ) (slotM rM off' q) (.dma sS) hsc) (.dma sR) hsrc hdst hsem) >>= fun _ => k) Q := by
  subst hn ho ho' hS hR
  simp only [lift_bind]
  have hmem : n ∈ (SdS n.val).erase c := Finset.mem_erase.mpr ⟨e, SdS_mem n⟩
  have hO : OR c ((SdS n.val).erase c) = OR c ((SdS (n.val + 1)).erase c) + tallyAt (recvCell n c) () N :=
    OR_erase hmem (by rw [Finset.erase_right_comm, SdS_erase])
  unfold Mid sendHolds
  rw [show xfer c n = iprop(dutyTok ER (sendCell c n) 0 c ∗ dutyTok ER (recvCell n c) 0 c ∗ recvAny n c) from if_neg e]
  unfold owesE recvAny
  iintro ⟨Hout, #HR, Hx, Hw, ⟨%W, HO⟩, ⟨⟨%fs, %hfs, Hs⟩, HtS, HtR, ⟨%fd, Hd⟩⟩, Hrest, Hg, HF⟩
  iapply (Rounds.wp_send_pointsTo 𝒱₀ ER (Rd m ρ) (c : Thread nD τ) none (κ₁ := K (c, some (false, n))) (κ₂ := K (n, some (true, c)))
    (src := slotM sM ![n.val, 0, 0] p) (dst := slotM rM ![c.val, 0, 0] q) (fs := fs) (fd := fd) (q := fullShare)
    (c' := (Dev.tc n : Thread nD τ)) (sS := .dma (sendS n)) (sem := .dma (recvS c))
    (r₁ := 0) (r₂ := 0) (d₁ := c) (d₂ := c)
    (by rw [duties_send, if_neg e]; exact Finset.mem_singleton_self _)
    (by rw [duties_recv, if_neg (fun h => e h.symm)]; exact Finset.mem_singleton_self _)
    () () N rfl (amount_send m ρ c n c) (amount_recv m ρ n c c) (OR c ((SdS (n.val + 1)).erase c)) hO (W := W)
    (by rw [payload_send, set_slot_send]; unfold sendAny; iintro H; iexists fs; iexact H)
    (by
      rw [payload_recv, set_slot_recv]; unfold recvHolds
      iintro H; iexists _
      isplitr
      · ipureintro; exact (copied c n p q fs fd).trans hfs
      · iexact H)) $$ [Hs Hd HO HtS HtR]
  · isplitr; · iapply (records_inv m ρ K (c, some (false, n))); iexact HR
    isplitr; · iapply (records_inv m ρ K (n, some (true, c))); iexact HR
    isplitl [Hs]; · rw [set_slot_send]; iexact Hs
    isplitl [Hd]; · rw [set_slot_recv]; iexact Hd
    isplitl [HO]; · iexact HO
    isplitl [HtS]; · iexact HtS
    isplitr; · iapply (records_reached m ρ K (c, some (false, n))); iexact HR
    isplitl [HtR]; · iexact HtR
    iapply (records_reached m ρ K (n, some (true, c))); iexact HR
  iintro ⟨Hc, HO⟩
  iapply hk
  unfold Snd owesE
  rw [compl_erase (SdS_mem n) (SdS_erase n), put_one (fun h => (Finset.mem_sdiff.mp h).2 (SdS_mem n)),
    show gone c n = (cred (tallyAt (sendCell c n) () N) : sProp 𝕄) from if_neg e]
  isplitl [Hout]; · iexact Hout
  isplitr; · iexact HR
  isplitl [Hx]; · iexact Hx
  isplitl [Hw]; · iexact Hw
  isplitl [HO]; · iexists W; iexact HO
  isplitl [Hrest]; · iexact Hrest
  isplitr [HF]
  · isplitl [Hc] <;> iassumption
  · iexact HF

/-- The device's own block stays. -/
theorem xfer_skip (c j : Dev nD) (e : j = c) {α : Type} {Q : α → sProp 𝕄} {k : Prog (TpuEff nD τ sig (Elt F) Λ₀ .tc) α} {Fr : sProp 𝕄}
    (hk : Snd m ρ K c (j.val + 1) Fr ⊢ WP c k Q) : Mid m ρ K c j (j.val + 1) Fr ⊢ WP c k Q := by
  subst e
  have hO : (SdS (j.val + 1)).erase j = (SdS j.val).erase j := by rw [← SdS_erase, Finset.erase_idem]
  unfold Mid
  iintro ⟨Hout, #HR, Hx, Hw, HO, ⟨Hs, -⟩, Hrest, Hg, HF⟩
  iapply hk
  unfold Snd
  rw [compl_erase (SdS_mem j) (SdS_erase j), put_one (fun h => (Finset.mem_sdiff.mp h).2 (SdS_mem j)),
    show gone j j = (sendAny j j : sProp 𝕄) from if_pos rfl, hO]
  isplitl [Hout]; · iexact Hout
  isplitr; · iexact HR
  isplitl [Hx]; · iexact Hx
  isplitl [Hw]; · iexact Hw
  isplitl [HO]; · iexact HO
  isplitl [Hrest]; · iexact Hrest
  isplitr [HF]
  · isplitl [Hs]
    · iapply (sendHolds_any j j (sent m ρ j j)); iexact Hs
    · iexact Hg
  · iexact HF

/-! ## Taking the blocks in -/

def inDone (c s : Dev nD) : sProp 𝕄 := iprop(recvAny c s ∗ semVal (recvCell c s) 0)

/-- `n` blocks have been awaited, `n'` of them stored in the output. -/
def Rcv (c : Dev nD) (n n' : ℕ) (Fr : sProp 𝕄) : sProp 𝕄 :=
  iprop(outSt m ρ c (fun b => b ∉ RvS c n') ∗ records m ρ K ∗ owesE c 0
    ∗ (bigSep (RvS c n) fun s => iprop(cred (tallyAt (recvCell c s) () N) ∗ atPos ER (recvCell c s) 0 ∅ 0))
    ∗ (bigSep (Finset.univ \ RvS c n) (inDone c)) ∗ Fr)

/-- Block `n + 1` comes in: the wait, and the load of its slot. -/
theorem take_in (c s : Dev nD) (n : ℕ) (h : after s c = n + 1) {sR : DmaSem sig} (hR : sR = recvS s)
    {src : Memref sig .tc .vmem S256x256 .bf16} {off off' : Fin 3 → Nat} (ho : off' = ![s.val, 0, 0]) {q p hsrc hdst hl}
    {α : Type} {Q : α → sProp 𝕄} {k : Vec F S1x256x256 .bf16 → Prog (TpuEff nD τ sig (Elt F) Λ₀ .tc) α} {Fr : sProp 𝕄}
    (hk : Rcv m ρ K c (n + 1) n Fr ⊢ WP c (k (sent m ρ s c)) Q) :
    Rcv m ρ K c n n Fr ⊢ WP c (Prog.lift (.waitDma2 sR src (slotM rM off q) hsrc hdst)
      >>= fun _ => Prog.lift (.load rM (Rect.unit (s := S8x256x256) off' S1x256x256.size p).toLoadRect hl) >>= k) Q := by
  subst hR ho
  simp only [lift_bind]
  have hne := RvS_ne c s n h
  unfold Rcv owesE
  rw [take_one (RvS_mem c s n h), RvS_erase c s n h]
  iintro ⟨Hout, #HR, ⟨%W, HO⟩, ⟨⟨Hc, Hat⟩, Hrest⟩, Hd, HF⟩
  iapply (Rounds.wp_wait_rest_token 𝒱₀ ER (Rd m ρ) (c : Thread nD τ) none (κ := K (c, some (true, s)))
      (wpE_waitDma2_eq 𝒱₀ (c : Thread nD τ) none Set.univ) (Set.mem_univ _) () (O := 0) (W := W) (R := 0) (m := 0) (T := ∅)
      (by rw [Nat.zero_add]; exact (expect_recv m ρ c s hne).symm)) $$ [Hc HO Hat]
  · isplitr; · iapply (records_inv m ρ K (c, some (true, s))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c s hne)) $$ Hpay
  imod (Rounds.cell_close ER (Rd m ρ) (Set.mem_univ (K (c, some (true, s)))) (fun h => h) (R := 0 + 1) (duties_later m ρ (recvCell c s))) $$ [Hat] with Hz
  · isplitr; · iapply (records_inv m ρ K (c, some (true, s))); iexact HR
    iexact Hat
  unfold recvHolds
  icases Hp with ⟨%f, %hf, Hs⟩
  iapply (wp_load_rect 𝒱₀ (c : Thread nD τ) none Set.univ (m := rM) (r := slotR s) (le_of_eq (slot_set_recv s))) $$ Hs; iintro Hs
  rw [hf]
  iapply hk
  unfold Rcv owesE
  rw [compl_erase (RvS_mem c s n h) (RvS_erase c s n h), put_one (fun h' => (Finset.mem_sdiff.mp h').2 (RvS_mem c s n h))]
  isplitl [Hout]; · iexact Hout
  isplitr; · iexact HR
  isplitl [HO]; · iexists _; iexact HO
  isplitl [Hrest]; · iexact Hrest
  isplitr [HF]
  · isplitr [Hd]
    · unfold inDone recvAny
      isplitl [Hs]
      · iexists f; iexact Hs
      · iexact Hz
    · iexact Hd
  · iexact HF

/-- It goes to its rows of the output. -/
theorem put_out (c s : Dev nD) (n : ℕ) (h : after s c = n + 1) {v : FVec F S256x256 .f32} (hv : v = k0_pay19 (sent m ρ s c))
    {off : Fin 2 → Nat} (ho : off = ![256 * s.val, 0]) {p q : ∀ i, off i + S256x256.size i ≤ S2048x256.size i}
    {hl hx hm} {α : Type} {Q : α → sProp 𝕄} {k : Prog (TpuEff nD τ sig (Elt F) Λ₀ .tc) α} {Fr : sProp 𝕄}
    (hk : Rcv m ρ K c (n + 1) (n + 1) Fr ⊢ WP c k Q) :
    Rcv m ρ K c (n + 1) n Fr ⊢ WP c (Prog.lift (.load oM (Rect.unit (s := S2048x256) off S256x256.size p).toLoadRect hl)
      >>= fun _ => Prog.lift (.store oM (Rect.unit (s := S2048x256) off S256x256.size q) v Finset.univ hx hm) >>= fun _ => k) Q := by
  unfold Rcv at hk ⊢
  refine out_write m ρ c s (fun b hb => ?_) ?_ ho hk
  · by_contra hn
    rw [not_or, not_not] at hn
    exact hb (by rw [← RvS_erase c s n h]; exact Finset.mem_erase.mpr ⟨hn.2, hn.1⟩)
  · rw [hv, outBlk, if_neg (RvS_ne c s n h)]

/-! ## Awaiting the sends -/

def outDone (c j : Dev nD) : sProp 𝕄 := iprop(sendAny c j ∗ semVal (sendCell c j) 0)

/-- `n` sends have been awaited. -/
def Drn (c : Dev nD) (n : ℕ) (Fr : sProp 𝕄) : sProp 𝕄 :=
  iprop(records m ρ K ∗ owesE c 0 ∗ (bigSep (SdS n) fun j => iprop(gone c j ∗ atPos ER (sendCell c j) 0 ∅ 0))
    ∗ (bigSep (Finset.univ \ SdS n) (outDone c)) ∗ Fr)

theorem drain_step (c j : Dev nD) (e : ¬j = c) {sS : DmaSem sig} (hS : sS = sendS j)
    {src : Memref sig .tc .vmem S256x256 .bf16} {dst : Memref sig .tc .vmem S256x256 .bf16} (hN : dst.view.dmaCredit = N) {hsrc hdst}
    {α : Type} {Q : α → sProp 𝕄} {k : Prog (TpuEff nD τ sig (Elt F) Λ₀ .tc) α} {Fr : sProp 𝕄}
    (hk : Drn m ρ K c (j.val + 1) Fr ⊢ WP c k Q) :
    Drn m ρ K c j.val Fr ⊢ WP c (Prog.lift (.waitDma2 sS src dst hsrc hdst) >>= fun _ => k) Q := by
  subst hS
  simp only [lift_bind]
  unfold Drn owesE
  rw [take_one (SdS_mem j), SdS_erase j, show gone c j = (cred (tallyAt (sendCell c j) () N) : sProp 𝕄) from if_neg e]
  iintro ⟨#HR, ⟨%W, HO⟩, ⟨⟨Hc, Hat⟩, Hrest⟩, Hd, HF⟩
  iapply (Rounds.wp_wait_rest_token 𝒱₀ ER (Rd m ρ) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add, hN]; exact (expect_send m ρ c j e).symm)) $$ [Hc HO Hat]
  · isplitr; · iapply (records_inv m ρ K (c, some (false, j))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m ρ c j e)) $$ Hpay
  imod (Rounds.cell_close ER (Rd m ρ) (Set.mem_univ (K (c, some (false, j)))) (fun h => h) (R := 0 + 1) (duties_later m ρ (sendCell c j))) $$ [Hat] with Hz
  · isplitr; · iapply (records_inv m ρ K (c, some (false, j))); iexact HR
    iexact Hat
  iapply hk
  unfold Drn owesE
  rw [compl_erase (SdS_mem j) (SdS_erase j), put_one (fun h' => (Finset.mem_sdiff.mp h').2 (SdS_mem j))]
  isplitr; · iexact HR
  isplitl [HO]; · iexists _; iexact HO
  isplitl [Hrest]; · iexact Hrest
  isplitr [HF]
  · isplitr [Hd]
    · unfold outDone
      isplitl [Hp] <;> iassumption
    · iexact Hd
  · iexact HF

theorem drain_skip (c j : Dev nD) (e : j = c) {α : Type} {Q : α → sProp 𝕄} {k : Prog (TpuEff nD τ sig (Elt F) Λ₀ .tc) α} {Fr : sProp 𝕄}
    (hk : Drn m ρ K c (j.val + 1) Fr ⊢ WP c k Q) : Drn m ρ K c j.val Fr ⊢ WP c k Q := by
  subst e
  unfold Drn
  rw [take_one (SdS_mem j), SdS_erase j, show gone j j = (sendAny j j : sProp 𝕄) from if_pos rfl]
  iintro ⟨#HR, HO, ⟨⟨Hs, Hat⟩, Hrest⟩, Hd, HF⟩
  imod (Rounds.cell_close ER (Rd m ρ) (Set.mem_univ (K (j, some (false, j)))) (fun h => h) (R := 0) (duties_sendSelf m ρ j)) $$ [Hat] with Hz
  · isplitr; · iapply (records_inv m ρ K (j, some (false, j))); iexact HR
    iexact Hat
  iapply hk
  unfold Drn
  rw [compl_erase (SdS_mem j) (SdS_erase j), put_one (fun h' => (Finset.mem_sdiff.mp h').2 (SdS_mem j))]
  isplitr; · iexact HR
  isplitl [HO]; · iexact HO
  isplitl [Hrest]; · iexact Hrest
  isplitr [HF]
  · isplitr [Hd]
    · unfold outDone
      isplitl [Hs] <;> iassumption
    · iexact Hd
  · iexact HF

end Cert.BlocksProof
-- ==== Proof.Body.lean ====
/-
# The kernel's body

The kernel, part by part, by the steps of `Steps.lean`.
-/
module

public import proofs.«01_k».proof.Proof.Steps

@[expose] public section

noncomputable section

namespace Cert.BlocksProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Bool × Dev nD) → ℕ)

/-! ## The program's numbers -/

/-- Whom the seven signals go to. -/
def sigDev (c : Dev nD) : Fin 7 → Dev nD
  | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
  | 4 => ⟨k0_dev5 c, k0_dev5_lt c⟩ | 5 => ⟨k0_dev6 c, k0_dev6_lt c⟩ | 6 => ⟨k0_dev7 c, k0_dev7_lt c⟩
theorem sigDev_after : ∀ (c : Dev nD) (d : Fin 7), after c (sigDev c d) = d.val + 1 := by decide +kernel

/-- Which block is kept, which is sent, which send is awaited. -/
def keeps (c : Dev nD) : Dev nD → BitVec 1
  | 0 => k0_cond1 c | 1 => k0_cond3 c | 2 => k0_cond5 c | 3 => k0_cond7 c | 4 => k0_cond9 c | 5 => k0_cond11 c | 6 => k0_cond13 c | 7 => k0_cond15 c
def sends (c : Dev nD) : Dev nD → BitVec 1
  | 0 => k0_cond2 c | 1 => k0_cond4 c | 2 => k0_cond6 c | 3 => k0_cond8 c | 4 => k0_cond10 c | 5 => k0_cond12 c | 6 => k0_cond14 c | 7 => k0_cond16 c
def awaits (c : Dev nD) : Dev nD → BitVec 1
  | 0 => k0_cond17 c | 1 => k0_cond18 c | 2 => k0_cond19 c | 3 => k0_cond20 c | 4 => k0_cond21 c | 5 => k0_cond22 c | 6 => k0_cond23 c | 7 => k0_cond24 c
theorem keeps_iff : ∀ c j : Dev nD, keeps c j = 1#1 ↔ j = c := by decide +kernel
theorem sends_iff : ∀ c j : Dev nD, sends c j = 1#1 ↔ ¬j = c := by decide +kernel
theorem awaits_iff : ∀ c j : Dev nD, awaits c j = 1#1 ↔ ¬j = c := by decide +kernel

/-- The device whose block comes in `r + 1`-st. -/
def before (c : Dev nD) (r : Fin 7) : Dev nD := ⟨(c.val + 7 - r.val) % 8, Nat.mod_lt _ (by decide)⟩
theorem before_after : ∀ (c : Dev nD) (r : Fin 7), after (before c r) c = r.val + 1 := by decide +kernel
theorem in_sem : ∀ (c : Dev nD) (r : Fin 7), k0_off25 c (BitVec.ofNat 32 (1 + r.val)) = ![(before c r).val] := by decide +kernel
theorem in_slot : ∀ (c : Dev nD) (r : Fin 7), k0_off27 c (BitVec.ofNat 32 (1 + r.val)) = ![(before c r).val, 0, 0] := by decide +kernel
theorem in_rows : ∀ (c : Dev nD) (r : Fin 7), k0_off28 c (BitVec.ofNat 32 (1 + r.val)) = ![256 * (before c r).val, 0] := by decide +kernel

theorem wp_done {c : Dev nD} {α : Type} {a : α} {Q : α → sProp 𝕄} {P : sProp 𝕄} (h : P ⊢ Q a) : P ⊢ WP c (pure a) Q := by
  unfold WP
  rw [Prog.pure_eq_ret, wp_ret]
  iintro H; imodintro; iapply h; iexact H

theorem wp_who {c : Dev nD} {α : Type} {k : Dev nD → Prog (TpuEff nD τ sig (Elt F) Λ₀ .tc) α} {Q : α → sProp 𝕄} {P : sProp 𝕄}
    (h : P ⊢ WP c (k c) Q) : P ⊢ WP c (Prog.lift .deviceId >>= k) Q := by
  rw [lift_bind]; unfold WP; rw [wp_deviceId]; exact h

/-! ## The parts -/

theorem part1 (c : Dev nD) {Q : _ → sProp 𝕄} {Fr : sProp 𝕄}
    (hk : ∀ r, r.1 = c → r.2.2.1 = SemArray.scalar (sig.barrier 0 rfl) → (Sig m ρ K c 2 Fr ⊢ Q r)) :
    Sig m ρ K c 0 Fr ⊢ WP c (k0_part1 (F := F) xM (Memref.isWhole_whole _) wM (Memref.isWhole_whole _) oM (Memref.isWhole_whole _)
      sM (Memref.isWhole_whole _) rM (Memref.isWhole_whole _) cc0_scratch2 cc0_scratch3) Q := by
  rw [k0_part1_eq_skeleton]; unfold k0_part1_skel
  refine wp_who ?_
  refine signal_step m ρ K c _ 0 (sigDev_after c 0) rfl ?_
  refine signal_step m ρ K c _ 1 (sigDev_after c 1) rfl ?_
  exact wp_done (hk _ rfl rfl)

theorem part2 (c : Dev nD) (v2 v30 v8 : BitVec 32) (v31 : BitVec 1) {Q : _ → sProp 𝕄} {Fr : sProp 𝕄}
    (hk : ∀ r, (Sig m ρ K c 4 Fr ⊢ Q r)) :
    Sig m ρ K c 2 Fr ⊢ WP c (k0_part2 (F := F) xM (Memref.isWhole_whole _) wM (Memref.isWhole_whole _) oM (Memref.isWhole_whole _)
      sM (Memref.isWhole_whole _) rM (Memref.isWhole_whole _) cc0_scratch2 cc0_scratch3 c v2 (SemArray.scalar (sig.barrier 0 rfl)) v30 v8 v31) Q := by
  rw [k0_part2_eq_skeleton]; unfold k0_part2_skel
  refine signal_step m ρ K c _ 2 (sigDev_after c 2) rfl ?_
  refine signal_step m ρ K c _ 3 (sigDev_after c 3) rfl ?_
  exact wp_done (hk _)

theorem part3 (c : Dev nD) (v2 v59 : BitVec 32) (v64 : BitVec 1) (v65 : BitVec 32) {Q : _ → sProp 𝕄} {Fr : sProp 𝕄}
    (hk : Met m ρ K c Fr ⊢ Q ⟨⟩) :
    Sig m ρ K c 4 iprop((cred (tallyAt (barCell c) () 7) ∗ atPos ER (barCell c) 0 ∅ 0) ∗ Fr) ⊢ WP c (k0_part3 (F := F) xM (Memref.isWhole_whole _) wM (Memref.isWhole_whole _) oM (Memref.isWhole_whole _)
      sM (Memref.isWhole_whole _) rM (Memref.isWhole_whole _) cc0_scratch2 cc0_scratch3 c v2 (SemArray.scalar (sig.barrier 0 rfl)) v59 v64 v65) Q := by
  rw [k0_part3_eq_skeleton]; unfold k0_part3_skel
  refine signal_step m ρ K c _ 4 (sigDev_after c 4) rfl ?_
  refine signal_step m ρ K c _ 5 (sigDev_after c 5) rfl ?_
  refine signal_step m ρ K c _ 6 (sigDev_after c 6) rfl ?_
  refine bar_step m ρ K c ?_
  exact wp_done hk

/-- The next block comes in whole. -/
theorem get (c : Dev nD) (r : Fin 7) {sR : DmaSem sig} (hR : sR = recvS (before c r))
    {src : Memref sig .tc .vmem S256x256 .bf16} {off off' : Fin 3 → Nat} (ho : off' = ![(before c r).val, 0, 0]) {q p hsrc hdst hl}
    {α : Type} {Q : α → sProp 𝕄} {k : Vec F S1x256x256 .bf16 → Prog (TpuEff nD τ sig (Elt F) Λ₀ .tc) α} {Fr : sProp 𝕄}
    (hk : Rcv m ρ K c (r.val + 1) r.val Fr ⊢ WP c (k (sent m ρ (before c r) c)) Q) :
    Rcv m ρ K c r.val r.val Fr ⊢ WP c (Prog.lift (.waitDma2 sR src (slotM rM off q) hsrc hdst)
      >>= fun _ => Prog.lift (.load rM (Rect.unit (s := S8x256x256) off' S1x256x256.size p).toLoadRect hl) >>= k) Q :=
  take_in m ρ K c (before c r) r.val (before_after c r) hR ho hk

/-- Block `j` is kept if it is the device's own. -/
theorem keep (c j : Dev nD) {C : Prop} [Decidable C] (hC : C ↔ j = c) {v : C → FVec F S256x256 .f32} (hv : ∀ h, v h = own m ρ c j)
    {off : C → Fin 2 → Nat} (ho : ∀ h, off h = ![256 * c.val, 0]) {p q : ∀ h i, off h i + S256x256.size i ≤ S2048x256.size i}
    {hl : ∀ h : C, _} {hx : ∀ h : C, _} {hm : ∀ h : C, _} {α : Type} {Q : α → sProp 𝕄} {k : Prog (TpuEff nD τ sig (Elt F) Λ₀ .tc) α} {Fr : sProp 𝕄}
    (hk : Mid m ρ K c j (j.val + 1) Fr ⊢ WP c k Q) :
    Mid m ρ K c j j.val Fr ⊢ WP c (dite C
      (fun h => Prog.lift (.load oM (Rect.unit (s := S2048x256) (off h) S256x256.size (p h)).toLoadRect (hl h))
        >>= fun _ => Prog.lift (.store oM (Rect.unit (s := S2048x256) (off h) S256x256.size (q h)) (v h) Finset.univ (hx h) (hm h)) >>= fun _ => k)
      (fun _ => k)) Q :=
  wp_dite hC (fun h e => own_step m ρ K c j e (hv h) (ho h) hk) (fun h e => own_skip m ρ K c j e hk)

/-- Block `j` is sent if it is another device's. -/
theorem send (c j : Dev nD) {C : Prop} [Decidable C] (hC : C ↔ ¬j = c) {n : C → Dev nD} (hn : ∀ h, n h = j)
    {sS sR : C → DmaSem sig} (hS : ∀ h, sS h = sendS j) (hR : ∀ h, sR h = recvS c)
    {off off' : C → Fin 3 → Nat} (ho : ∀ h, off h = ![j.val, 0, 0]) (ho' : ∀ h, off' h = ![c.val, 0, 0])
    {p : ∀ h : C, _} {q : ∀ h : C, _} {hsc : ∀ h : C, _} {hsrc : ∀ h : C, _} {hdst : ∀ h : C, _} {hsem : ∀ h : C, _}
    {α : Type} {Q : α → sProp 𝕄} {k : Prog (TpuEff nD τ sig (Elt F) Λ₀ .tc) α} {Fr : sProp 𝕄}
    (hk : Snd m ρ K c (j.val + 1) Fr ⊢ WP c k Q) :
    Mid m ρ K c j (j.val + 1) Fr ⊢ WP c (dite C
      (fun h => Prog.lift (.enqueueDma (slotM sM (off h) (p h))
        (.remote (Dev.tc (n h) : Thread nD τ) (slotM rM (off' h) (q h)) (.dma (sS h)) (hsc h)) (.dma (sR h)) (hsrc h) (hdst h) (hsem h)) >>= fun _ => k)
      (fun _ => k)) Q :=
  wp_dite hC (fun h e => xfer_step m ρ K c j e (hn h) (hS h) (hR h) (ho h) (ho' h) hk) (fun h e => xfer_skip m ρ K c j (not_not.mp e) hk)

/-- The send of block `j` is awaited if there was one. -/
theorem await (c j : Dev nD) {C : Prop} [Decidable C] (hC : C ↔ ¬j = c) {sS : C → DmaSem sig} (hS : ∀ h, sS h = sendS j)
    {src dst : C → Memref sig .tc .vmem S256x256 .bf16} (hN : ∀ h, (dst h).view.dmaCredit = N) {hsrc : ∀ h : C, _} {hdst : ∀ h : C, _}
    {α : Type} {Q : α → sProp 𝕄} {k : Prog (TpuEff nD τ sig (Elt F) Λ₀ .tc) α} {Fr : sProp 𝕄}
    (hk : Drn m ρ K c (j.val + 1) Fr ⊢ WP c k Q) :
    Drn m ρ K c j.val Fr ⊢ WP c (dite C
      (fun h => Prog.lift (.waitDma2 (sS h) (src h) (dst h) (hsrc h) (hdst h)) >>= fun _ => k) (fun _ => k)) Q :=
  wp_dite hC (fun h e => drain_step m ρ K c j e (hS h) (hN h) hk) (fun h e => drain_skip m ρ K c j (not_not.mp e) hk)

theorem credit_slot (off p) : (slotM sM off p).view.dmaCredit = N := rfl

set_option maxHeartbeats 2000000 in
theorem part4 (c : Dev nD) (v2 : BitVec 32) {Q : _ → sProp 𝕄} {Fr : sProp 𝕄}
    (hk : ∀ r, r.1 = k0_pay1 (xrows m ρ c) (wcols m ρ c 0) → r.2.1 = own m ρ c 2 → (Mid m ρ K c 2 2 Fr ⊢ Q r)) :
    Snd m ρ K c 0 Fr ⊢ WP c (k0_part4 (F := F) xM (Memref.isWhole_whole _) wM (Memref.isWhole_whole _) oM (Memref.isWhole_whole _)
      sM (Memref.isWhole_whole _) rM (Memref.isWhole_whole _) cc0_scratch2 cc0_scratch3 c v2) Q := by
  rw [k0_part4_eq_skeleton]; unfold k0_part4_skel
  refine load_x m ρ K c 0 ?_
  refine load_w m ρ K c 0 0 rfl ?_
  refine slot_step m ρ K c 0 rfl rfl ?_
  refine keep m ρ K c 0 (keeps_iff c 0) (fun _ => rfl) (fun _ => k0_off1_eq c) ?_
  refine send m ρ K c 0 (sends_iff c 0) (fun _ => rfl) (fun _ => send_sem 0 _ rfl _) (fun _ => recv_sem c _ (k0_off2_eq c) _) (fun _ => rfl) (fun _ => k0_off3_eq c) ?_
  refine slot_step m ρ K c 1 rfl rfl ?_
  refine keep m ρ K c 1 (keeps_iff c 1) (fun _ => rfl) (fun _ => k0_off4_eq c) ?_
  refine send m ρ K c 1 (sends_iff c 1) (fun _ => rfl) (fun _ => send_sem 1 _ rfl _) (fun _ => recv_sem c _ (k0_off5_eq c) _) (fun _ => rfl) (fun _ => k0_off6_eq c) ?_
  refine slot_step m ρ K c 2 rfl rfl ?_
  exact wp_done (hk _ rfl rfl)

set_option maxHeartbeats 2000000 in
theorem part5 (c : Dev nD) (v2 : BitVec 32) (v99 : FVec F S256x1024 .f32) (v122 : FVec F S256x256 .f32) (n : BitVec 32) {Q : _ → sProp 𝕄} {Fr : sProp 𝕄}
    (h1 : v99 = k0_pay1 (xrows m ρ c) (wcols m ρ c 0)) (h2 : v122 = own m ρ c 2)
    (hk : ∀ r, r.1 = k0_pay1 (xrows m ρ c) (wcols m ρ c 1) → (Mid m ρ K c 4 5 Fr ⊢ Q r)) :
    Mid m ρ K c 2 2 Fr ⊢ WP c (k0_part5 (F := F) xM (Memref.isWhole_whole _) wM (Memref.isWhole_whole _) oM (Memref.isWhole_whole _)
      sM (Memref.isWhole_whole _) rM (Memref.isWhole_whole _) cc0_scratch2 cc0_scratch3 c v2 v99 v122 n) Q := by
  subst h1
  rw [k0_part5_eq_skeleton]; unfold k0_part5_skel
  refine keep m ρ K c 2 (keeps_iff c 2) (fun _ => h2) (fun _ => k0_off7_eq c) ?_
  refine send m ρ K c 2 (sends_iff c 2) (fun _ => rfl) (fun _ => send_sem 2 _ rfl _) (fun _ => recv_sem c _ (k0_off8_eq c) _) (fun _ => rfl) (fun _ => k0_off9_eq c) ?_
  refine slot_step m ρ K c 3 rfl rfl ?_
  refine keep m ρ K c 3 (keeps_iff c 3) (fun _ => rfl) (fun _ => k0_off10_eq c) ?_
  refine send m ρ K c 3 (sends_iff c 3) (fun _ => rfl) (fun _ => send_sem 3 _ rfl _) (fun _ => recv_sem c _ (k0_off11_eq c) _) (fun _ => rfl) (fun _ => k0_off12_eq c) ?_
  refine load_x m ρ K c 4 ?_
  refine load_w m ρ K c 4 1 rfl ?_
  refine slot_step m ρ K c 4 rfl rfl ?_
  refine keep m ρ K c 4 (keeps_iff c 4) (fun _ => rfl) (fun _ => k0_off13_eq c) ?_
  exact wp_done (hk _ rfl)

set_option maxHeartbeats 2000000 in
theorem part6 (c : Dev nD) (v2 : BitVec 32) (v148 : FVec F S256x1024 .f32) (n : BitVec 32) {Q : _ → sProp 𝕄} {Fr : sProp 𝕄}
    (h1 : v148 = k0_pay1 (xrows m ρ c) (wcols m ρ c 1)) (hk : Mid m ρ K c 7 8 Fr ⊢ Q ⟨⟩) :
    Mid m ρ K c 4 5 Fr ⊢ WP c (k0_part6 (F := F) xM (Memref.isWhole_whole _) wM (Memref.isWhole_whole _) oM (Memref.isWhole_whole _)
      sM (Memref.isWhole_whole _) rM (Memref.isWhole_whole _) cc0_scratch2 cc0_scratch3 c v2 v148 n) Q := by
  subst h1
  rw [k0_part6_eq_skeleton]; unfold k0_part6_skel
  refine send m ρ K c 4 (sends_iff c 4) (fun _ => rfl) (fun _ => send_sem 4 _ rfl _) (fun _ => recv_sem c _ (k0_off14_eq c) _) (fun _ => rfl) (fun _ => k0_off15_eq c) ?_
  refine slot_step m ρ K c 5 rfl rfl ?_
  refine keep m ρ K c 5 (keeps_iff c 5) (fun _ => rfl) (fun _ => k0_off16_eq c) ?_
  refine send m ρ K c 5 (sends_iff c 5) (fun _ => rfl) (fun _ => send_sem 5 _ rfl _) (fun _ => recv_sem c _ (k0_off17_eq c) _) (fun _ => rfl) (fun _ => k0_off18_eq c) ?_
  refine slot_step m ρ K c 6 rfl rfl ?_
  refine keep m ρ K c 6 (keeps_iff c 6) (fun _ => rfl) (fun _ => k0_off19_eq c) ?_
  refine send m ρ K c 6 (sends_iff c 6) (fun _ => rfl) (fun _ => send_sem 6 _ rfl _) (fun _ => recv_sem c _ (k0_off20_eq c) _) (fun _ => rfl) (fun _ => k0_off21_eq c) ?_
  refine slot_step m ρ K c 7 rfl rfl ?_
  refine keep m ρ K c 7 (keeps_iff c 7) (fun _ => rfl) (fun _ => k0_off22_eq c) ?_
  exact wp_done hk

theorem part7 (c : Dev nD) (v2 : BitVec 32) {Q : _ → sProp 𝕄} {Fr Fr' : sProp 𝕄}
    (ht : Snd m ρ K c 8 Fr ⊢ iprop(|={Set.univ}=> Rcv m ρ K c 0 0 Fr'))
    (hk : ∀ r, Rcv m ρ K c 1 1 Fr' ⊢ Q r) :
    Mid m ρ K c 7 8 Fr ⊢ WP c (k0_part7 (F := F) xM (Memref.isWhole_whole _) wM (Memref.isWhole_whole _) oM (Memref.isWhole_whole _)
      sM (Memref.isWhole_whole _) rM (Memref.isWhole_whole _) cc0_scratch2 cc0_scratch3 c v2) Q := by
  rw [k0_part7_eq_skeleton]; unfold k0_part7_skel
  refine send m ρ K c 7 (sends_iff c 7) (fun _ => rfl) (fun _ => send_sem 7 _ rfl _) (fun _ => recv_sem c _ (k0_off23_eq c) _) (fun _ => rfl) (fun _ => k0_off24_eq c) ?_
  refine ht.trans ((BI.fupd_mono ?_).trans (fupd_wp _ _ _ _ _))
  refine get m ρ K c 0 (recv_sem _ _ (in_sem c 0) _) (in_slot c 0) ?_
  refine put_out m ρ K c _ 0 (before_after c 0) rfl (in_rows c 0) ?_
  exact wp_done (hk _)

theorem part8 (c : Dev nD) (v2 a b n : BitVec 32) {Q : _ → sProp 𝕄} {Fr : sProp 𝕄}
    (hk : ∀ r, (Rcv m ρ K c 2 2 Fr ⊢ Q r)) :
    Rcv m ρ K c 1 1 Fr ⊢ WP c (k0_part8 (F := F) xM (Memref.isWhole_whole _) wM (Memref.isWhole_whole _) oM (Memref.isWhole_whole _)
      sM (Memref.isWhole_whole _) rM (Memref.isWhole_whole _) cc0_scratch2 cc0_scratch3 c v2 a b n) Q := by
  rw [k0_part8_eq_skeleton]; unfold k0_part8_skel
  refine get m ρ K c 1 (recv_sem _ _ (in_sem c 1) _) (in_slot c 1) ?_
  refine put_out m ρ K c _ 1 (before_after c 1) rfl (in_rows c 1) ?_
  exact wp_done (hk _)

theorem part9 (c : Dev nD) (v2 n : BitVec 32) {Q : _ → sProp 𝕄} {Fr : sProp 𝕄}
    (hk : ∀ r, r.2 = k0_pay19 (sent m ρ (before c 3) c) → (Rcv m ρ K c 4 3 Fr ⊢ Q r)) :
    Rcv m ρ K c 2 2 Fr ⊢ WP c (k0_part9 (F := F) xM (Memref.isWhole_whole _) wM (Memref.isWhole_whole _) oM (Memref.isWhole_whole _)
      sM (Memref.isWhole_whole _) rM (Memref.isWhole_whole _) cc0_scratch2 cc0_scratch3 c v2 n) Q := by
  rw [k0_part9_eq_skeleton]; unfold k0_part9_skel
  refine get m ρ K c 2 (recv_sem _ _ (in_sem c 2) _) (in_slot c 2) ?_
  refine put_out m ρ K c _ 2 (before_after c 2) rfl (in_rows c 2) ?_
  refine get m ρ K c 3 (recv_sem _ _ (in_sem c 3) _) (in_slot c 3) ?_
  exact wp_done (hk _ rfl)

theorem part10 (c : Dev nD) (v2 n : BitVec 32) (v293 : FVec F S256x256 .f32) {Q : _ → sProp 𝕄} {Fr : sProp 𝕄}
    (h1 : v293 = k0_pay19 (sent m ρ (before c 3) c)) (hk : ∀ r, (Rcv m ρ K c 5 5 Fr ⊢ Q r)) :
    Rcv m ρ K c 4 3 Fr ⊢ WP c (k0_part10 (F := F) xM (Memref.isWhole_whole _) wM (Memref.isWhole_whole _) oM (Memref.isWhole_whole _)
      sM (Memref.isWhole_whole _) rM (Memref.isWhole_whole _) cc0_scratch2 cc0_scratch3 c v2 n v293) Q := by
  rw [k0_part10_eq_skeleton]; unfold k0_part10_skel
  refine put_out m ρ K c _ 3 (before_after c 3) h1 (in_rows c 3) ?_
  refine get m ρ K c 4 (recv_sem _ _ (in_sem c 4) _) (in_slot c 4) ?_
  refine put_out m ρ K c _ 4 (before_after c 4) rfl (in_rows c 4) ?_
  exact wp_done (hk _)

theorem part11 (c : Dev nD) (v2 a b n : BitVec 32) {Q : _ → sProp 𝕄} {Fr : sProp 𝕄}
    (hk : ∀ r, (Rcv m ρ K c 6 6 Fr ⊢ Q r)) :
    Rcv m ρ K c 5 5 Fr ⊢ WP c (k0_part11 (F := F) xM (Memref.isWhole_whole _) wM (Memref.isWhole_whole _) oM (Memref.isWhole_whole _)
      sM (Memref.isWhole_whole _) rM (Memref.isWhole_whole _) cc0_scratch2 cc0_scratch3 c v2 a b n) Q := by
  rw [k0_part11_eq_skeleton]; unfold k0_part11_skel
  refine get m ρ K c 5 (recv_sem _ _ (in_sem c 5) _) (in_slot c 5) ?_
  refine put_out m ρ K c _ 5 (before_after c 5) rfl (in_rows c 5) ?_
  exact wp_done (hk _)

set_option maxHeartbeats 4000000 in
theorem part12 (c : Dev nD) (v2 n : BitVec 32) {Q : _ → sProp 𝕄} {Fr Fr' : sProp 𝕄}
    (ht : Rcv m ρ K c 7 7 Fr ⊢ Drn m ρ K c 0 Fr')
    (hk : ∀ r, (Drn m ρ K c 6 Fr' ⊢ Q r)) :
    Rcv m ρ K c 6 6 Fr ⊢ WP c (k0_part12 (F := F) xM (Memref.isWhole_whole _) wM (Memref.isWhole_whole _) oM (Memref.isWhole_whole _)
      sM (Memref.isWhole_whole _) rM (Memref.isWhole_whole _) cc0_scratch2 cc0_scratch3 c v2 n) Q := by
  rw [k0_part12_eq_skeleton]; unfold k0_part12_skel
  refine get m ρ K c 6 (recv_sem _ _ (in_sem c 6) _) (in_slot c 6) ?_
  refine put_out m ρ K c _ 6 (before_after c 6) rfl (in_rows c 6) ?_
  refine ht.trans ?_
  extract_lets -underBinder jp0
  have h0 : Drn m ρ K c 1 Fr' ⊢ WP c (jp0 PUnit.unit) Q := by
    unfold jp0
    extract_lets -underBinder jp1
    have h1 : Drn m ρ K c 2 Fr' ⊢ WP c (jp1 PUnit.unit) Q := by
      unfold jp1
      extract_lets -underBinder jp2
      have h2 : Drn m ρ K c 3 Fr' ⊢ WP c (jp2 PUnit.unit) Q := by
        unfold jp2
        extract_lets -underBinder jp3
        have h3 : Drn m ρ K c 4 Fr' ⊢ WP c (jp3 PUnit.unit) Q := by
          unfold jp3
          extract_lets -underBinder jp4
          have h4 : Drn m ρ K c 5 Fr' ⊢ WP c (jp4 PUnit.unit) Q := by
            unfold jp4
            extract_lets -underBinder jp5
            have h5 : Drn m ρ K c 6 Fr' ⊢ WP c (jp5 PUnit.unit) Q := by
              unfold jp5
              exact wp_done (hk _)
            clear_value jp5
            exact await m ρ K c 5 (awaits_iff c 5) (fun _ => send_sem 5 _ rfl _) (fun _ => credit_slot _ _) h5
          clear_value jp4
          exact await m ρ K c 4 (awaits_iff c 4) (fun _ => send_sem 4 _ rfl _) (fun _ => credit_slot _ _) h4
        clear_value jp3
        exact await m ρ K c 3 (awaits_iff c 3) (fun _ => send_sem 3 _ rfl _) (fun _ => credit_slot _ _) h3
      clear_value jp2
      exact await m ρ K c 2 (awaits_iff c 2) (fun _ => send_sem 2 _ rfl _) (fun _ => credit_slot _ _) h2
    clear_value jp1
    exact await m ρ K c 1 (awaits_iff c 1) (fun _ => send_sem 1 _ rfl _) (fun _ => credit_slot _ _) h1
  clear_value jp0
  exact await m ρ K c 0 (awaits_iff c 0) (fun _ => send_sem 0 _ rfl _) (fun _ => credit_slot _ _) h0

end Cert.BlocksProof
-- ==== Proof.Whole.lean ====
/-
# The body as a whole

What a device starts the body with, what it ends it with, and how one stretch of the body hands over to the
next.
-/
module

public import proofs.«01_k».proof.Proof.Body

@[expose] public section

noncomputable section

namespace Cert.BlocksProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Bool × Dev nD) → ℕ)

/-! ## Between the stretches -/

abbrev sendAt (c j : Dev nD) : sProp 𝕄 := atPos ER (sendCell c j) 0 ∅ 0
abbrev recvAt (c j : Dev nD) : sProp 𝕄 := atPos ER (recvCell c j) 0 ∅ 0

/-- What the sends do not touch: the waiting side. -/
def Side (c : Dev nD) : sProp 𝕄 :=
  iprop(bigSep Finset.univ (recvAt c) ∗ (bigSep (Finset.univ.erase c) fun s => cred (tallyAt (recvCell c s) () N))
    ∗ bigSep Finset.univ (sendAt c) ∗ recvAny c c)
/-- What the signals and the barrier's wait do not touch. -/
def Kept (c : Dev nD) : sProp 𝕄 :=
  iprop(outSt m ρ c (fun _ => False) ∗ xPts m ρ c ∗ wPts m ρ c ∗ bigSep Finset.univ (sendAny c)
    ∗ (bigSep (Finset.univ.erase c) fun j => iprop(dutyTok ER (sendCell c j) 0 c ∗ dutyTok ER (recvCell j c) 0 c)) ∗ Side c)
/-- What the waits for the blocks do not touch. -/
def Sent (c : Dev nD) (Fr : sProp 𝕄) : sProp 𝕄 :=
  iprop(xPts m ρ c ∗ wPts m ρ c ∗ (bigSep Finset.univ fun j => iprop(gone c j ∗ sendAt c j)) ∗ Fr)
/-- What the waits for the sends do not touch. -/
def Got (c : Dev nD) (Fr : sProp 𝕄) : sProp 𝕄 :=
  iprop(outSt m ρ c (fun _ => True) ∗ xPts m ρ c ∗ wPts m ρ c ∗ bigSep Finset.univ (inDone c) ∗ Fr)

theorem to_send (c : Dev nD) :
    Met m ρ K c (Kept m ρ c) ⊢ Snd m ρ K c 0 iprop(Side c ∗ semVal (barCell c) 0) := by
  unfold Met Kept Snd
  rw [SdS_zero, Finset.sdiff_self, bigSep_empty, bigSep_sep' _ (sendAny c) (xfer c), take_one (Φ := xfer c) (Finset.mem_univ c),
    show xfer c c = (iprop(emp) : sProp 𝕄) from if_pos rfl,
    bigSep_congr (s := Finset.univ.erase c) (Φ := xfer c)
      (Ψ := fun j => iprop((dutyTok ER (sendCell c j) 0 c ∗ dutyTok ER (recvCell j c) 0 c) ∗ recvAny j c))
      (fun j hj => (if_neg (Finset.ne_of_mem_erase hj)).trans (equiv_iff.mp ⟨BI.sep_assoc', BI.sep_assoc⟩)),
    bigSep_sep' (Finset.univ.erase c) (fun j => iprop(dutyTok ER (sendCell c j) 0 c ∗ dutyTok ER (recvCell j c) 0 c)) (fun j => recvAny j c)]
  iintro ⟨HR, HO, Hr, Hb, Ho, Hx, Hw, Hs, Ht, HS⟩
  isplitl [Ho]
  · iapply (outSt_mono m ρ c (P := fun _ => False) (fun b hb => Nat.not_lt_zero _ hb.2)); iexact Ho
  isplitl [HR]; · iexact HR
  isplitl [Hx]; · iexact Hx
  isplitl [Hw]; · iexact Hw
  isplitl [HO]; · iexact HO
  isplitl [Hs Ht Hr]
  · isplitl [Hs]; · iexact Hs
    isplitr; · iempintro
    isplitl [Ht]; · iexact Ht
    iexact Hr
  isplitr; · iempintro
  isplitl [HS]; · iexact HS
  iexact Hb

theorem compl_erase_self (c : Dev nD) : Finset.univ \ Finset.univ.erase c = {c} := by revert c; decide

theorem to_recv (c : Dev nD) (Fr : sProp 𝕄) :
    Snd m ρ K c 8 iprop(Side c ∗ Fr) ⊢ iprop(|={Set.univ}=> Rcv m ρ K c 0 0 (Sent m ρ c Fr)) := by
  unfold Snd Side Rcv Sent
  rw [SdS_eight, RvS_zero, compl_erase_self, bigSep_singleton, Finset.sdiff_empty, bigSep_empty,
    show OR c (Finset.erase ∅ c) = 0 from Finset.sum_empty, bigSep_sep' _ (gone c) (sendAt c),
    bigSep_sep' (Finset.univ.erase c) (fun s => cred (tallyAt (recvCell c s) () N)) (recvAt c),
    take_one (Φ := recvAt c) (Finset.mem_univ c)]
  iintro ⟨Ho, #HR, Hx, Hw, HO, -, Hg, ⟨⟨Ha, Has⟩, Hc, Hsa, Hr⟩, HF⟩
  imod (Rounds.cell_close ER (Rd m ρ) (Set.mem_univ (K (c, some (true, c)))) (fun h => h) (R := 0) (duties_recvSelf m ρ c)) $$ [Ha] with Hz
  · isplitr; · iapply (records_inv m ρ K (c, some (true, c))); iexact HR
    iexact Ha
  imodintro
  isplitl [Ho]
  · iapply (outSt_mono m ρ c (P := fun b => b = c ∧ c.val < 8) (fun b hb => ⟨by_contra fun h => hb (Finset.mem_erase.mpr ⟨h, Finset.mem_univ b⟩), c.isLt⟩))
    iexact Ho
  isplitr; · iexact HR
  isplitl [HO]; · iexact HO
  isplitl [Hc Has]
  · isplitl [Hc] <;> iassumption
  isplitl [Hr Hz]
  · unfold inDone
    isplitl [Hr] <;> iassumption
  isplitl [Hx]; · iexact Hx
  isplitl [Hw]; · iexact Hw
  isplitl [Hg Hsa]
  · isplitl [Hg] <;> iassumption
  iexact HF

theorem to_drain (c : Dev nD) (Fr : sProp 𝕄) :
    Rcv m ρ K c 7 7 (Sent m ρ c Fr) ⊢ Drn m ρ K c 0 (Got m ρ c Fr) := by
  unfold Rcv Sent Drn Got
  rw [RvS_seven, SdS_zero, Finset.sdiff_empty, Finset.sdiff_self, bigSep_empty, bigSep_empty]
  iintro ⟨Ho, HR, HO, -, Hi, Hx, Hw, Hg, HF⟩
  isplitl [HR]; · iexact HR
  isplitl [HO]; · iexact HO
  isplitl [Hg]; · iexact Hg
  isplitr; · iempintro
  isplitl [Ho]
  · iapply (outSt_mono m ρ c (P := fun b => b ∉ (∅ : Finset (Dev nD))) (fun b _ => Finset.notMem_empty b)); iexact Ho
  isplitl [Hx]; · iexact Hx
  isplitl [Hw]; · iexact Hw
  isplitl [Hi] <;> iassumption

/-! ## The whole body -/

/-- Before the body, -/
def Start (c : Dev nD) : sProp 𝕄 :=
  Sig m ρ K c 0 iprop((cred (tallyAt (barCell c) () 7) ∗ atPos ER (barCell c) 0 ∅ 0) ∗ Kept m ρ c)
/-- and after it. -/
def Done (c : Dev nD) : sProp 𝕄 :=
  iprop(owesE c 0 ∗ bigSep Finset.univ (outDone c) ∗ Got m ρ c (semVal (barCell c) 0))

theorem Drn_done (c : Dev nD) : Drn m ρ K c 8 (Got m ρ c (semVal (barCell c) 0)) ⊢ Done m ρ c := by
  unfold Drn Done
  rw [SdS_eight, Finset.sdiff_empty, bigSep_empty]
  iintro ⟨-, HO, -, Hd, HG⟩
  isplitl [HO]; · iexact HO
  isplitl [Hd] <;> iassumption

theorem wp_seq {c : Dev nD} {α β : Type} {p : Prog (TpuEff nD τ sig (Elt F) Λ₀ .tc) β} {k : β → Prog (TpuEff nD τ sig (Elt F) Λ₀ .tc) α}
    {Q : α → sProp 𝕄} {P : sProp 𝕄} (h : P ⊢ WP c p (fun a => WP c (k a) Q)) : P ⊢ WP c (p >>= k) Q := by
  unfold WP at h ⊢
  rw [wp_bind]; exact h

set_option maxHeartbeats 4000000 in
theorem body_run (c : Dev nD) {Q : PUnit → sProp 𝕄} (hQ : Done m ρ c ⊢ Q ⟨⟩) :
    Start m ρ K c ⊢ WP c (cc0_body (F := F) xM (Memref.isWhole_whole _) wM (Memref.isWhole_whole _) oM (Memref.isWhole_whole _)
      sM (Memref.isWhole_whole _) rM (Memref.isWhole_whole _) cc0_scratch2 cc0_scratch3) Q := by
  rw [cc0_body_eq_skeleton]; unfold cc0_body_skel Start
  refine wp_seq (part1 m ρ K c ?_)
  rintro ⟨d0, v2, v3, v30, v8, v31⟩ h1 h2
  obtain rfl : d0 = c := h1
  obtain rfl : v3 = _ := h2
  refine wp_seq (part2 m ρ K d0 v2 v30 v8 v31 ?_)
  rintro ⟨v59, v64, v65⟩
  refine wp_seq (part3 m ρ K d0 v2 v59 v64 v65 ((to_send m ρ K d0).trans ?_))
  refine wp_seq (part4 m ρ K d0 v2 ?_)
  rintro ⟨v99, v122, n2⟩ h1 h2
  refine wp_seq (part5 m ρ K d0 v2 v99 v122 n2 h1 h2 ?_)
  rintro ⟨v148, v158⟩ h1
  refine wp_seq (part6 m ρ K d0 v2 v148 v158 h1 ?_)
  refine wp_seq (part7 m ρ K d0 v2 (to_recv m ρ K d0 _) ?_)
  rintro ⟨v221, v222, n0⟩
  refine wp_seq (part8 m ρ K d0 v2 v221 v222 n0 ?_)
  intro v255
  refine wp_seq (part9 m ρ K d0 v2 v255 ?_)
  rintro ⟨v281, v293⟩ h1
  refine wp_seq (part10 m ρ K d0 v2 v281 v293 h1 ?_)
  rintro ⟨v325, v326, n0'⟩
  refine wp_seq (part11 m ρ K d0 v2 v325 v326 n0' ?_)
  intro v359
  refine wp_seq (part12 m ρ K d0 v2 v359 (to_drain m ρ K d0 _) ?_)
  intro v394
  refine await m ρ K d0 6 (awaits_iff d0 6) (fun _ => send_sem 6 _ rfl _) (fun _ => credit_slot _ _) ?_
  refine await m ρ K d0 7 (awaits_iff d0 7) (fun _ => send_sem 7 _ rfl _) (fun _ => credit_slot _ _) ?_
  exact wp_done ((Drn_done m ρ K d0).trans hQ)

end Cert.BlocksProof
-- ==== Proof.Launch.lean ====
/-
# The launch

What the launch deals each device, and the run of the whole program.
-/
module

public import proofs.«01_k».proof.Proof.Whole

@[expose] public section

noncomputable section

namespace Cert.BlocksProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result of a device -/

/-- Where in its block an element of the output is. -/
def inBlk (i : S2048x256.Idx) : S256x256.Idx := fun a => match a with
  | ⟨0, _⟩ => ⟨(i 0).val % 256, Nat.mod_lt _ (by decide)⟩
  | ⟨1, _⟩ => ⟨(i 1).val, (i 1).isLt⟩
/-- Which block it is in. -/
def blkOf (i : S2048x256.Idx) : Dev nD := ⟨(i 0).val / 256, by have : (i 0).val < 2048 := (i 0).isLt; show _ < 8; omega⟩

theorem emb_inBlk (i : S2048x256.Idx) : (rowsR (blkOf i)).emb (inBlk i) = i := by
  funext a
  apply Fin.ext
  fin_cases a
  · show 256 * ((i 0).val / 256) + 1 * ((i 0).val % 256) = (i 0).val
    omega
  · show 0 + 1 * (i 1).val = (i 1).val
    omega

/-- The output of device `c`. -/
def outAt (c : Dev nD) : (cc0_stg2_0 : Ref sig .tc).ty.Contents (Elt F) := fun i => outBlk m ρ c (blkOf i) (inBlk i)

theorem out_whole (c : Dev nD) (f : (cc0_stg2_0 : Ref sig .tc).ty.Contents (Elt F))
    (h : ∀ b, (oM.access (rowsR b)).read (Elt F) f = outBlk m ρ c b) : f = outAt m ρ c := by
  funext i
  have := congrFun (h (blkOf i)) (inBlk i)
  unfold outAt
  rw [← this]
  show f i = f ((rowsR (blkOf i)).emb (inBlk i))
  rw [emb_inBlk]

/-! ## The buffers of blocks, whole and slot by slot -/

theorem slots_disjoint (b b' : Dev nD) (h : b ≠ b') : Disjoint (slotR b).set (slotR b').set :=
  Ring.lead_disjoint (s := S8x256x256) (0 : Fin 3) 1 (fun b : Dev nD => ![b.val, 0, 0]) S1x256x256.size slot_inb (fun b => (Nat.one_mul _).symm) rfl b b' h
theorem slots_cover : Finset.univ.biUnion (fun b : Dev nD => (slotR b).set) = Finset.univ :=
  Ring.lead_cover (s := S8x256x256) (0 : Fin 3) 1 (fun b : Dev nD => ![b.val, 0, 0]) S1x256x256.size slot_inb (fun b => (Nat.one_mul _).symm)
    (fun b a h => by fin_cases a <;> first | exact absurd rfl h | rfl) rfl
    (fun a h => by fin_cases a <;> first | exact absurd rfl h | rfl) rfl

theorem send_any (c j : Dev nD) (f : Buf (Elt F) ((c : Thread nD τ).loc cc0_scratch0)) :
    (((c : Thread nD τ).loc cc0_scratch0) ↦[(slotR j).set]{fullShare} f : sProp 𝕄) ⊢ sendAny c j := by
  unfold sendAny; iintro H; iexists f; iexact H
theorem recv_any (c j : Dev nD) (f : Buf (Elt F) ((c : Thread nD τ).loc cc0_scratch1)) :
    (((c : Thread nD τ).loc cc0_scratch1) ↦[(slotR j).set]{fullShare} f : sProp 𝕄) ⊢ recvAny c j := by
  unfold recvAny; iintro H; iexists f; iexact H
theorem send_slots (c : Dev nD) (f : Buf (Elt F) ((c : Thread nD τ).loc cc0_scratch0)) : (((c : Thread nD τ).loc cc0_scratch0) ↦{fullShare} f : sProp 𝕄)
    ⊢ bigSep Finset.univ (sendAny c) :=
  BI.Entails.trans (Q := bigSep Finset.univ fun j => ((c : Thread nD τ).loc cc0_scratch0) ↦[(slotR j).set]{fullShare} f)
    (BIBase.Entails.of_eq (Ring.pointsTo_blocks (ℓ := (c : Thread nD τ).loc cc0_scratch0) (fun b : Dev nD => (slotR b).set) slots_disjoint slots_cover f))
    (BI.bigSep_mono fun j _ => send_any c j f)
theorem send_split (c : Dev nD) : (iprop(∃ f : Buf (Elt F) ((c : Thread nD τ).loc cc0_scratch0), ((c : Thread nD τ).loc cc0_scratch0) ↦{fullShare} f) : sProp 𝕄)
    ⊢ bigSep Finset.univ (sendAny c) := by
  iintro ⟨%f, H⟩
  iapply (send_slots c f); iexact H
theorem recv_slots (c : Dev nD) (f : Buf (Elt F) ((c : Thread nD τ).loc cc0_scratch1)) : (((c : Thread nD τ).loc cc0_scratch1) ↦{fullShare} f : sProp 𝕄)
    ⊢ bigSep Finset.univ (recvAny c) :=
  BI.Entails.trans (Q := bigSep Finset.univ fun j => ((c : Thread nD τ).loc cc0_scratch1) ↦[(slotR j).set]{fullShare} f)
    (BIBase.Entails.of_eq (Ring.pointsTo_blocks (ℓ := (c : Thread nD τ).loc cc0_scratch1) (fun b : Dev nD => (slotR b).set) slots_disjoint slots_cover f))
    (BI.bigSep_mono fun j _ => recv_any c j f)
theorem recv_split (c : Dev nD) : (iprop(∃ f : Buf (Elt F) ((c : Thread nD τ).loc cc0_scratch1), ((c : Thread nD τ).loc cc0_scratch1) ↦{fullShare} f) : sProp 𝕄)
    ⊢ bigSep Finset.univ (recvAny c) := by
  iintro ⟨%f, H⟩
  iapply (recv_slots c f); iexact H
theorem send_eq (c j : Dev nD) : (sendAny c j : sProp 𝕄) ⊢ iprop(∃ f : Buf (Elt F) ((c : Thread nD τ).loc cc0_scratch0), ((c : Thread nD τ).loc cc0_scratch0) ↦[(slotR j).set]{fullShare} f) := by
  unfold sendAny; iintro H; iexact H
theorem recv_eq (c j : Dev nD) : (recvAny c j : sProp 𝕄) ⊢ iprop(∃ f : Buf (Elt F) ((c : Thread nD τ).loc cc0_scratch1), ((c : Thread nD τ).loc cc0_scratch1) ↦[(slotR j).set]{fullShare} f) := by
  unfold recvAny; iintro H; iexact H
theorem send_join (m : (ℓ : Loc nD τ sig) → Buf (Elt F) ℓ) (c : Dev nD) : (bigSep Finset.univ (sendAny c) : sProp 𝕄)
    ⊢ iprop(∃ f : Buf (Elt F) ((c : Thread nD τ).loc cc0_scratch0), ((c : Thread nD τ).loc cc0_scratch0) ↦{fullShare} f) :=
  (BI.bigSep_mono fun j _ => send_eq c j).trans (Ring.pointsTo_blocks_join_exists (ℓ := (c : Thread nD τ).loc cc0_scratch0) (fun b : Dev nD => (slotR b).set) slots_disjoint slots_cover (m ((c : Thread nD τ).loc cc0_scratch0)))
theorem recv_join (m : (ℓ : Loc nD τ sig) → Buf (Elt F) ℓ) (c : Dev nD) : (bigSep Finset.univ (recvAny c) : sProp 𝕄)
    ⊢ iprop(∃ f : Buf (Elt F) ((c : Thread nD τ).loc cc0_scratch1), ((c : Thread nD τ).loc cc0_scratch1) ↦{fullShare} f) :=
  (BI.bigSep_mono fun j _ => recv_eq c j).trans (Ring.pointsTo_blocks_join_exists (ℓ := (c : Thread nD τ).loc cc0_scratch1) (fun b : Dev nD => (slotR b).set) slots_disjoint slots_cover (m ((c : Thread nD τ).loc cc0_scratch1)))

/-! ## The ghost state -/

theorem bigSep_option (Φ : Option (Bool × Dev nD) → sProp 𝕄) :
    bigSep Finset.univ Φ = iprop(Φ none ∗ bigSep Finset.univ fun p => Φ (some p)) := by
  rw [show (Finset.univ : Finset (Option (Bool × Dev nD))) = insert none (Finset.univ.map Function.Embedding.some) from by
    ext o; cases o <;> simp, put_one (by simp), bigSep_map]
  rfl
theorem bigSep_own (Φ : Bool × Dev nD → sProp 𝕄) :
    bigSep Finset.univ Φ = iprop((bigSep Finset.univ fun j => Φ (false, j)) ∗ bigSep Finset.univ fun j => Φ (true, j)) := by
  rw [bigSep_univ_prod, bigSep_univ_eq_bigSepL [false, true] (by decide) (by decide)]; rfl
theorem bigSep_cells (Φ : Option (Bool × Dev nD) → sProp 𝕄) : bigSep Finset.univ Φ
    = iprop(Φ none ∗ (bigSep Finset.univ fun j => Φ (some (false, j))) ∗ bigSep Finset.univ fun j => Φ (some (true, j))) := by
  rw [bigSep_option, bigSep_own]

theorem csem_injective : Function.Injective csem := by decide +kernel
theorem kcell_injective : Function.Injective (kcell : Dev nD × Option (Bool × Dev nD) → GSem nD τ sig) := by
  rintro ⟨c, k⟩ ⟨c', k'⟩ h
  have h1 : c = c' := congrArg (fun g : GSem nD τ sig => g.1.1) h
  have h2 : k = k' := csem_injective (congrArg Prod.snd h)
  rw [h1, h2]
def protoCells : Finset (GSem nD τ sig) := Finset.univ.map ⟨kcell, kcell_injective⟩

/-- The tokens: for each pair of devices, the second's right to signal the first, and the first's send to the second
    at its two ends. -/
abbrev tokOf (p : (Dev nD × Dev nD) × Fin 3) : GSem nD τ sig × ℕ × Dev nD := match p.2 with
  | 0 => (barCell p.1.1, 0, p.1.2) | 1 => (sendCell p.1.1 p.1.2, 0, p.1.1) | 2 => (recvCell p.1.1 p.1.2, 0, p.1.2)
theorem tokOf_injective : Function.Injective tokOf := by
  rintro ⟨⟨c, d⟩, j⟩ ⟨⟨c', d'⟩, j'⟩ h
  have h1 : c = c' := by
    have := congrArg (fun x : GSem nD τ sig × ℕ × Dev nD => x.1.1.1) h
    fin_cases j <;> fin_cases j' <;> exact this
  subst h1
  have hs := congrArg (fun x : GSem nD τ sig × ℕ × Dev nD => (x.1.2, x.2.2)) h
  have h2 : d = d' ∧ j = j' := by
    have : ∀ (c d d' : Dev nD) (j j' : Fin 3),
        ((tokOf ((c, d), j)).1.2, (tokOf ((c, d), j)).2.2) = ((tokOf ((c, d'), j')).1.2, (tokOf ((c, d'), j')).2.2) → d = d' ∧ j = j' := by decide +kernel
    exact this c d d' j j' hs
  rw [h2.1, h2.2]
def protoToks : Finset (GSem nD τ sig × ℕ × Dev nD) := Finset.univ.map ⟨tokOf, tokOf_injective⟩

def u₀ : UU := (initOf (Pipeline.cells cfgs cellOf_inj) (Pipeline.launchToks cfgs cellOf_inj), initOf protoCells protoToks)

/-- The tokens of a device's own cells, -/
def toks (c : Dev nD) : sProp 𝕄 :=
  bigSep Finset.univ fun d => iprop(dutyTok ER (barCell c) 0 d ∗ dutyTok ER (sendCell c d) 0 c ∗ dutyTok ER (recvCell c d) 0 d)
/-- and those a device pays with. -/
def payToks (c : Dev nD) : sProp 𝕄 :=
  bigSep Finset.univ fun d => iprop(dutyTok ER (barCell d) 0 c ∗ dutyTok ER (sendCell c d) 0 c ∗ dutyTok ER (recvCell d c) 0 c)

theorem toks_around : (bigSep Finset.univ fun c : Dev nD => (toks c : sProp 𝕄)) ⊢ bigSep Finset.univ fun c : Dev nD => payToks c := by
  unfold toks payToks
  simp only [bigSep_sep']
  iintro ⟨HB, HS, HR⟩
  isplitl [HB]
  · iapply (Entails.of_eq (bigSep_univ_comm fun c d : Dev nD => (dutyTok ER (barCell c) 0 d : sProp 𝕄))); iexact HB
  isplitl [HS]; · iexact HS
  iapply (Entails.of_eq (bigSep_univ_comm fun c d : Dev nD => (dutyTok ER (recvCell c d) 0 d : sProp 𝕄))); iexact HR

/-- What a device is dealt, -/
def G (c : Dev nD) : sProp 𝕄 :=
  iprop((bigSep Finset.univ fun k => roundState ER (Rd m ρ) (kcell (c, k)) 0)
    ∗ ((bigSep Finset.univ fun k => atPos ER (kcell (c, k)) 0 ∅ 0) ∗ bigSep Finset.univ fun k => reached ER (kcell (c, k)) 0) ∗ toks c)
/-- what of it stays its own, -/
def linear (c : Dev nD) : sProp 𝕄 := iprop((bigSep Finset.univ fun k => atPos ER (kcell (c, k)) 0 ∅ 0) ∗ payToks c)
/-- what is known to all, -/
def known (K : Dev nD × Option (Bool × Dev nD) → ℕ) : sProp 𝕄 :=
  iprop((bigSep Finset.univ fun ck => cellInv ER (Rd m ρ) (K ck) (kcell ck)) ∗ bigSep Finset.univ fun ck => reached ER (kcell ck) 0)
/-- and the two together. -/
def G' (c : Dev nD) : sProp 𝕄 := iprop(∃ K, known m ρ K ∗ linear c)

instance known_persistent (K : Dev nD × Option (Bool × Dev nD) → ℕ) : BI.Persistent (known (F := F) m ρ K) := by unfold known; infer_instance

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod, bigSep_univ_prod]
    refine bigSep_congr fun c _ => bigSep_congr fun d _ => ?_
    rw [bigSep_univ_eq_bigSepL [0, 1, 2] (by decide) (by decide)]; rfl
  iintro HX
  imod (Rounds.fund ER (Rd m ρ) protoCells protoToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = iprop((bigSep Finset.univ fun j => semVal (sendCell c j) 0) ∗ bigSep Finset.univ fun j => semVal (recvCell c j) 0) := by
  unfold Pipeline.ownSems0; rw [bigSep_own]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ ((bigSep Finset.univ fun k => atPos ER (kcell (c, k)) 0 ∅ 0) ∗ bigSep Finset.univ fun k => reached ER (kcell (c, k)) 0) ∗ toks c) := by
  unfold G
  rw [unscopedSems0_eq]
  iintro ⟨Hos, Hus, Hst, Hat, Htok⟩
  imod (show iprop((bigSep Finset.univ fun k => semVal (kcell (c, k)) 0) ∗ bigSep Finset.univ fun k => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hos Hus Hst] with Hinv
  · isplitr [Hst]
    · rw [bigSep_option]
      isplitl [Hus]; · iexact Hus
      iapply (Entails.of_eq (show _ = (bigSep Finset.univ fun p => semVal (kcell (c, some p)) 0 : sProp 𝕄) from rfl)); unfold Pipeline.ownSems0; iexact Hos
    · iexact Hst
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (Rd m ρ) κ (kcell (c, k))))
          ∗ ((bigSep Finset.univ fun k => atPos ER (kcell (c, k)) 0 ∅ 0) ∗ bigSep Finset.univ fun k => reached ER (kcell (c, k)) 0) ∗ toks c) : sProp 𝕄)
      ⊢ bigSep Finset.univ (G' m ρ) := by
  rw [bigSep_sep', bigSep_sep', bigSep_sep', ← bigSep_univ_prod (fun ck : Dev nD × Option (Bool × Dev nD) => iprop(∃ κ : ℕ, cellInv ER (Rd m ρ) κ (kcell ck))),
    ← bigSep_univ_prod (fun ck : Dev nD × Option (Bool × Dev nD) => (reached ER (kcell ck) 0 : sProp 𝕄))]
  iintro ⟨HI, ⟨Hat, #HR⟩, Htok⟩
  ihave HK := (BI.bigSep_exists_pi Finset.univ (fun (ck : Dev nD × Option (Bool × Dev nD)) (κ : ℕ) => (cellInv ER (Rd m ρ) κ (kcell ck) : sProp 𝕄))) $$ HI
  icases HK with ⟨%K, #HI⟩
  ihave Htk := (toks_around (F := F)) $$ Htok
  iapply (BI.bigSep_with_persistent (R := known m ρ K) (Φ := linear) fun c _ => (show iprop(known m ρ K ∗ linear c) ⊢ G' m ρ c from by
    unfold G'; iintro H; iexists K; iexact H))
  isplitr
  · unfold known; isplitl; · iexact HI
    iexact HR
  · unfold linear
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

theorem sum_at (S : Finset (Dev nD)) (g : Dev nD → GSem nD τ sig) (k : ℕ) (x : GSem nD τ sig) (p : Dev nD → Prop) [DecidablePred p]
    (hp : ∀ j, x = g j ↔ p j) : (∑ j ∈ S, tallyAt (g j) () k : CellTallies nD τ sig Unit) x () = ∑ j ∈ S, if p j then k else 0 := by
  rw [Finset.sum_apply, Finsupp.finset_sum_apply]
  refine Finset.sum_congr rfl fun j _ => ?_
  rw [tallyAt_apply]
  by_cases h : p j
  · rw [if_pos h, if_pos ⟨(hp j).mpr h, rfl⟩]
  · rw [if_neg h, if_neg fun h' => h ((hp j).mp h'.1)]

theorem bar_iff (c j : Dev nD) : barCell c = barCell j ↔ j = c :=
  ⟨fun h => (congrArg (fun g : GSem nD τ sig => g.1.1) h).symm, fun h => h ▸ rfl⟩
theorem bar_ne_recv (c j d : Dev nD) : barCell c = recvCell j d ↔ False := ⟨fun h => (nomatch congrArg Prod.snd h), False.elim⟩
theorem recv_ne_bar (c j s : Dev nD) : recvCell c s = barCell j ↔ False := ⟨fun h => (nomatch congrArg Prod.snd h), False.elim⟩
theorem recv_iff (c s j d : Dev nD) : recvCell c s = recvCell j d ↔ j = c ∧ s = d :=
  ⟨fun h => ⟨(congrArg (fun g : GSem nD τ sig => g.1.1) h).symm, by
      have := csem_injective (a₁ := some (true, s)) (a₂ := some (true, d)) (congrArg Prod.snd h); injection this with h'; exact congrArg Prod.snd h'⟩,
    fun h => by rw [h.1, h.2]⟩

theorem owed_bar (d c : Dev nD) : O₀ d (barCell c) () = if d = c then 0 else 1 := by
  unfold O₀ OR OB
  rw [Pi.add_apply, Finsupp.add_apply, sum_at _ _ _ _ (fun _ => False) (fun j => bar_ne_recv c j d), sum_at _ _ _ _ (fun j => j = c) (fun j => bar_iff c j),
    Finset.sum_ite_eq']
  by_cases h : d = c
  · subst h; simp
  · rw [if_neg h, if_pos (Finset.mem_erase.mpr ⟨fun e => h e.symm, Finset.mem_univ _⟩)]; simp

theorem owed_recv (d c s : Dev nD) (hs : s ≠ c) : O₀ d (recvCell c s) () = if d = s then N else 0 := by
  unfold O₀ OR OB
  rw [Pi.add_apply, Finsupp.add_apply, sum_at _ _ _ _ (fun j => j = c ∧ s = d) (fun j => recv_iff c s j d), sum_at _ _ _ _ (fun j => False) (fun j => recv_ne_bar c j s)]
  by_cases h : d = s
  · subst h
    simp only [and_true]
    rw [Finset.sum_ite_eq', if_pos (Finset.mem_erase.mpr ⟨fun e => hs e.symm, Finset.mem_univ _⟩)]; simp
  · rw [if_neg h]; simp only [show (s = d) = False from eq_false fun e => h e.symm]; simp

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c s : Dev nD) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs, Finset.sum_ite_eq' Finset.univ s fun _ => N,
    if_pos (Finset.mem_univ _)]

def recvLoc : Dev nD ↪ SemLoc sig := ⟨fun s => .dma (recvS s), fun s s' h => by
  have := csem_injective (a₁ := some (true, s)) (a₂ := some (true, s')) h; injection this with h'; exact congrArg Prod.snd h'⟩

theorem creds (c : Dev nD) :
    (Pipeline.launchCred O₀ c : sProp 𝕄) ⊢ iprop(cred (tallyAt (barCell c) () 7) ∗ bigSep (Finset.univ.erase c) fun s => cred (tallyAt (recvCell c s) () N)) := by
  unfold Pipeline.launchCred
  rw [bigSep_univ_at _ (SemLoc.reg barS), launch_bar]
  refine sep_mono_right ?_
  refine BI.Entails.trans (BI.bigSep_subset (t := (Finset.univ.erase c).map recvLoc) fun x hx => by
    obtain ⟨s, -, rfl⟩ := Finset.mem_map.mp hx
    exact Finset.mem_erase.mpr ⟨(fun h => nomatch h), Finset.mem_univ _⟩) ?_
  rw [bigSep_map]
  exact BIBase.Entails.of_eq (bigSep_congr fun s hs => congrArg cred (launch_recv c s (Finset.ne_of_mem_erase hs)))

end Cert.BlocksProof
-- ==== Proof.Run.lean ====
/-
# The run

The whole program on eight devices, from the body of one.
-/
module

public import proofs.«01_k».proof.Proof.Launch
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Quiescent
public import Idealize.ShloMosaic.Lib.Tactic

@[expose] public section

noncomputable section

namespace Cert.BlocksProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The data of the launch -/

/-- What a device's body starts from, of the ghost state. -/
def begins (c : Dev nD) : sProp 𝕄 :=
  iprop((∃ K, records m ρ K ∗ linear c) ∗ cred (tallyAt (barCell c) () 7) ∗ bigSep (Finset.univ.erase c) fun s => cred (tallyAt (recvCell c s) () N))

def someSend (c : Dev nD) : sProp 𝕄 := iprop(∃ f : Buf (Elt F) ((c : Thread nD τ).loc cc0_scratch0), ((c : Thread nD τ).loc cc0_scratch0) ↦{fullShare} f)
def someRecv (c : Dev nD) : sProp 𝕄 := iprop(∃ f : Buf (Elt F) ((c : Thread nD τ).loc cc0_scratch1), ((c : Thread nD τ).loc cc0_scratch1) ↦{fullShare} f)

/-- Before the body, -/
def Φ₀ (c : Dev nD) : sProp 𝕄 := iprop(begins m ρ c ∗ someSend c ∗ someRecv c)
/-- and after it. -/
def Φ₁ (c : Dev nD) : sProp 𝕄 :=
  iprop((someSend c ∗ someRecv c) ∗ ((bigSep Finset.univ fun j => semVal (sendCell c j) 0) ∗ bigSep Finset.univ fun j => semVal (recvCell c j) 0)
    ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The tokens a device pays with, its own ones dropped. -/
theorem pay_others (c : Dev nD) : (payToks c : sProp 𝕄)
    ⊢ iprop((bigSep (Finset.univ.erase c) fun j => dutyTok ER (barCell j) 0 c)
      ∗ bigSep (Finset.univ.erase c) fun j => iprop(dutyTok ER (sendCell c j) 0 c ∗ dutyTok ER (recvCell j c) 0 c)) := by
  unfold payToks
  refine BI.Entails.trans (BI.bigSep_subset (Finset.erase_subset c Finset.univ)) ?_
  exact BIBase.Entails.of_eq (bigSep_sep' (Finset.univ.erase c) (fun j => dutyTok ER (barCell j) 0 c) (fun j => iprop(dutyTok ER (sendCell c j) 0 c ∗ dutyTok ER (recvCell j c) 0 c)))

/-- The receive slots a device gives away are those of the other devices' signals to it. -/
theorem begin_body (c : Dev nD) (K : Dev nD × Option (Bool × Dev nD) → ℕ) (W : Waits sig Unit)
    (f : Buf (Elt F) ((c : Thread nD τ).loc cc0_stg2_0)) :
    iprop(records m ρ K ∗ linear c ∗ cred (tallyAt (barCell c) () 7) ∗ (bigSep (Finset.univ.erase c) fun s => cred (tallyAt (recvCell c s) () N))
        ∗ someSend c ∗ someRecv c ∗ owes (c : Thread nD τ) (O₀ c) W
        ∗ xPts m ρ c ∗ wPts m ρ c ∗ ((c : Thread nD τ).loc cc0_stg2_0) ↦{fullShare} f)
      ⊢ Start m ρ K c := by
  unfold Start Sig Kept Side linear someSend someRecv outSt owesE
  rw [SgS_zero, bigSep_cells, bigSep_sep' (Finset.univ.erase c) (fun j => dutyTok ER (barCell j) 0 c) (recvAny c)]
  iintro ⟨HR, ⟨⟨HaB, HaS, HaV⟩, Ht⟩, HcB, HcV, Hs, Hr, HO, Hx, Hw, Ho⟩
  ihave Hs' := (send_split (F := F) c) $$ Hs
  ihave Hr' := ((recv_split (F := F) c).trans (BIBase.Entails.of_eq (take_one (Φ := recvAny c) (Finset.mem_univ c)))) $$ Hr
  icases Hr' with ⟨Hrc, Hr⟩
  ihave Ht' := (pay_others (F := F) c) $$ Ht
  icases Ht' with ⟨HtB, HtX⟩
  isplitl [HR]; · iexact HR
  isplitl [HO]; · iexists W; iexact HO
  isplitl [HtB Hr]
  · isplitl [HtB] <;> iassumption
  isplitl [HcB HaB]
  · isplitl [HcB]; · iexact HcB
    iexact HaB
  isplitl [Ho]
  · iexists f; isplitr; · (ipureintro; exact fun _ h => h.elim)
    iexact Ho
  isplitl [Hx]; · iexact Hx
  isplitl [Hw]; · iexact Hw
  isplitl [Hs']; · iexact Hs'
  isplitl [HtX]; · iexact HtX
  isplitl [HaV]; · iexact HaV
  isplitl [HcV]; · iexact HcV
  isplitl [HaS]; · iexact HaS
  iexact Hrc

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (wstg m ρ c) ∗ stg c cc0_stg2_0 (outAt m ρ c))

theorem end_body (c : Dev nD) : Done m ρ c ⊢ bodyPost m ρ c := by
  unfold Done Got bodyPost Φ₁ owesE outSt Dat.owesAt Pipeline.owesWithin
  rw [show (outDone c : Dev nD → sProp 𝕄) = fun j => iprop(sendAny c j ∗ semVal (sendCell c j) 0) from rfl,
    show (inDone c : Dev nD → sProp 𝕄) = fun j => iprop(recvAny c j ∗ semVal (recvCell c j) 0) from rfl,
    bigSep_sep' Finset.univ (sendAny c) fun j => semVal (sendCell c j) 0, bigSep_sep' Finset.univ (recvAny c) fun j => semVal (recvCell c j) 0,
    show (dats m ρ 0 c).owed t0_0.succ = 0 from rfl]
  iintro ⟨⟨%W, HO⟩, ⟨Hs, Hzs⟩, ⟨%f, %hf, Ho⟩, Hx, Hw, ⟨Hr, Hzr⟩, HzB⟩
  have hf' : f = outAt m ρ c := out_whole m ρ c f fun b => hf b trivial
  subst hf'
  isplitl [Hs Hr Hzs Hzr HzB]
  · isplitl [Hs Hr]
    · isplitl [Hs]
      · iapply (show _ ⊢ (someSend c : sProp 𝕄) from send_join m c); iexact Hs
      · iapply (show _ ⊢ (someRecv c : sProp 𝕄) from recv_join m c); iexact Hr
    isplitl [Hzs Hzr]
    · isplitl [Hzs] <;> iassumption
    iexact HzB
  isplitl [HO]
  · iexists W
    isplitr; · ipureintro; exact fun _ _ => Or.inl trivial
    iexact HO
  isplitl [Hx]
  · iexists (xstg m ρ c); isplitr; · (ipureintro; rfl)
    iexact Hx
  isplitl [Hw]
  · iexists (wstg m ρ c); isplitr; · (ipureintro; rfl)
    iexact Hw
  iexists _; isplitr; · (ipureintro; rfl)
  iexact Ho

theorem sound_body (c : Dev nD) : bodyPre m ρ c ⊢ WP c (cc0_body (F := F) xM (Memref.isWhole_whole _) wM (Memref.isWhole_whole _) oM (Memref.isWhole_whole _)
      sM (Memref.isWhole_whole _) rM (Memref.isWhole_whole _) cc0_scratch2 cc0_scratch3) (fun _ => bodyPost m ρ c) := by
  unfold bodyPre Φ₀ begins
  iintro ⟨⟨⟨⟨%K, HR, HL⟩, HcB, HcV⟩, Hs, Hr⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  iapply (body_run m ρ K c (Q := fun _ => bodyPost m ρ c) (end_body m ρ c))
  iapply (begin_body m ρ c K W g2)
  isplitl [HR]; · iexact HR
  isplitl [HL]; · iexact HL
  isplitl [HcB]; · iexact HcB
  isplitl [HcV]; · iexact HcV
  isplitl [Hs]; · iexact Hs
  isplitl [Hr]; · iexact Hr
  isplitl [HO]; · iexact HO
  isplitl [Hx]; · iexact Hx
  isplitl [Hw]; · iexact Hw
  iexact Hout

set_option maxRecDepth 4000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

/-! ## The side conditions of the launch -/

theorem ownSemFacts : Pipeline.OwnSemFacts cfg0.spec osem := by decide +kernel

theorem share_eq (c : Dev nD) (w : Fin cfg0.W) : (dats m ρ 0 c).share w = fullShare := by unfold Dat.share; split <;> rfl

theorem begins_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(begins m ρ c ∗ emp) := by
  iintro ⟨-, Hlev, Hcr, -, HG⟩
  ihave Hc := (creds (F := F) c) $$ Hcr
  unfold begins G' known records
  icases HG with ⟨%K, ⟨HI, Hre⟩, HL⟩
  icases Hc with ⟨H1, HN⟩
  imodintro
  isplitl
  · isplitr [H1 HN]
    · iexists K
      isplitr [HL]
      · isplitl [HI]; · iexact HI
        isplitl [Hre]; · iexact Hre
        iexact Hlev
      iexact HL
    isplitl [H1] <;> iassumption
  · iempintro

theorem phi0_intro (c : Dev nD) :
    iprop(begins m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ someSend someRecv
  iintro ⟨Hs, -, H1, H2⟩
  isplitl [Hs]; · iexact Hs
  isplitl [H1]; · iexact H1
  iexact H2

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ someSend someRecv
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, every fair execution on eight devices ends, with each array at the contents
    computed and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := begins m ρ) (Y := fun c => unscopedSems0 c) (Z := fun _ => iprop(emp))
    (hX := begins_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.BlocksProof
-- ==== Proof.Value.lean ====
/-
# The value

What the result arrays hold, and that over the extended reals they are the blocks of the one product.
-/
module

public import proofs.«01_k».proof.Defs
public import proofs.«01_k».proof.Proof.Run
public import proofs.«01_k».proof.Proof.Gen.ReferenceIdeal
public import proofs.«01_k».proof.Proof.Gen.ReferenceIdeal.Run
public import Idealize.ShloMosaic.Lib.MatmulPlain
public import Idealize.ShloMosaic.Lib.StackMember
public import Idealize.ShloMosaic.Lib.Pipeline.Value
public import Idealize.ShloMosaic.Lib.Pipeline.ValueKit.Geometry

@[expose] public section

noncomputable section

namespace Cert.BlocksProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The arrays at the end -/

/-- The result array holds what the body left. -/
theorem finalA_out (c : Dev nD) : finalA m ρ c (2 : Fin 3) = outAt m ρ c := by
  funext i
  exact (dats m ρ 0 c).arrAt_emb_eq_after_last (2 : Fin 3) t0_0 (by decide +kernel) i

/-- The run, at the three arrays of @main. -/
theorem run_arrays : θ_run defs (onTc (τ := τ) (main (F := F))) (s₀ m ρ) (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (finalA_out m ρ c), (h.1 c (0 : Fin 3)).trans (finalA_x m ρ c),
    (h.1 c (1 : Fin 3)).trans (finalA_w m ρ c)⟩, h.2⟩) (run_main m ρ)

/-! ## One block, over the extended reals -/

section Reals

variable (m : (ℓ : Loc nD τ sig) → Buf (Elt Ideal) ℓ)

/-- A device's blocks of the two inputs. -/
def xOf (c : Dev nD) : FVec Ideal ⟨2, ![256, 2048]⟩ .bf16 := m ((c : Thread nD τ).loc main_arg0)
def wOf (c : Dev nD) : FVec Ideal ⟨2, ![2048, 2048]⟩ .bf16 := m ((c : Thread nD τ).loc main_arg1)

theorem xstg_eq (c : Dev nD) : xstg m ρ c = m ((c : Thread nD τ).loc main_arg0) := by
  funext i
  show m ((c : Thread nD τ).loc main_arg0) ((win0_0.blk (0 : Fin 1)).view.emb i) = m ((c : Thread nD τ).loc main_arg0) i
  congr 1
  funext a
  apply Fin.ext
  show 0 * _ + 1 * (i a).val = (i a).val
  omega
theorem wstg_eq (c : Dev nD) : wstg m ρ c = m ((c : Thread nD τ).loc main_arg1) := by
  funext i
  show m ((c : Thread nD τ).loc main_arg1) ((win0_1.blk (0 : Fin 1)).view.emb i) = m ((c : Thread nD τ).loc main_arg1) i
  congr 1
  funext a
  apply Fin.ext
  show 0 * _ + 1 * (i a).val = (i a).val
  omega

theorem zero_off : (![0, 0] : Fin 2 → Nat) = fun _ => 0 := funext fun a => by fin_cases a <;> rfl
theorem xrows_eq (c : Dev nD) : xrows m ρ c = xOf m c :=
  (Memref.readAt_unit_zero (Elt Ideal) cc0_stg0_0 zero_off _ (xstg m ρ c)).trans (xstg_eq ρ m c)

theorem wcols_apply (c : Dev nD) (h : Fin 2) (k : Fin 2048) (l : Fin 1024) :
    wcols m ρ c h (ix2 k l) = wOf m c (ix2 k ⟨1024 * h.val + l.val, by have := h.isLt; have := l.isLt; omega⟩) := by
  unfold wcols
  rw [wstg_eq]
  show wOf m c _ = wOf m c _
  congr 1
  funext a
  apply Fin.ext
  fin_cases a
  · show 0 + 1 * k.val = k.val
    omega
  · show 1024 * h.val + 1 * l.val = 1024 * h.val + l.val
    omega

/-- Half of a device's product, at an element. -/
theorem half_apply (x : Vec Ideal S256x2048 .bf16) (w : Vec Ideal S2048x1024 .bf16) (r : Fin 256) (l : Fin 1024) :
    k0_pay1 x w (ix2 r l) = ∑ k : Fin 2048, (x : FVec Ideal S256x2048 .bf16) (ix2 r k) * (w : FVec Ideal S2048x1024 .bf16) (ix2 k l) := by
  unfold k0_pay1
  rw [shapeCast_self, shapeCast_self]
  refine (Ideal.matmul_plain_apply (M := 256) (K := 2048) (N := 1024) none (φ₁ := .bf16) (φ₂ := .bf16) x w (constant S256x1024 .f32 0x00000000#32) r l).trans ?_
  show Ideal.ofBits .f32 0x00000000#32 + _ = _
  rw [Ideal.ofBits_zero_f32, zero_add]

/-- Device `c`'s product with column block `j`. -/
theorem own_apply (c j : Dev nD) (r l : Fin 256) :
    own m ρ c j (ix2 r l)
      = ∑ k : Fin 2048, xOf m c (ix2 r k) * wOf m c (ix2 k ⟨256 * j.val + l.val, by have : j.val < 8 := j.isLt; have := l.isLt; omega⟩) := by
  have hj : j.val < 8 := j.isLt
  have hl := l.isLt
  unfold own
  rw [extractStridedSlice_apply (k := ix2 r ⟨256 * (j.val % 4) + l.val, by omega⟩) (hk := fun a => by
    fin_cases a
    · exact (Nat.zero_add _).symm
    · rfl), half_apply]
  refine Finset.sum_congr rfl fun k _ => ?_
  rw [wcols_apply, xrows_eq]
  congr 3
  apply Fin.ext
  show 1024 * (j.val / 4) + (256 * (j.val % 4) + l.val) = 256 * j.val + l.val
  omega

/-- The narrowing and the widening of a block change nothing. -/
theorem outBlk_eq (c b : Dev nD) : outBlk m ρ c b = own m ρ b c := by
  unfold outBlk
  split
  · next h => rw [h]
  · unfold k0_pay19 sent
    rw [shapeCast_shapeCast]
    rfl

/-- The result of a device at an element. -/
theorem outAt_apply (c : Dev nD) (i : S2048x256.Idx) :
    outAt m ρ c i = ∑ k : Fin 2048, xOf m (blkOf i) (ix2 ⟨(i 0).val % 256, Nat.mod_lt _ (by decide)⟩ k)
      * wOf m (blkOf i) (ix2 k ⟨256 * c.val + (i 1).val, by have : c.val < 8 := c.isLt; have : (i 1).val < 256 := (i 1).isLt; omega⟩) := by
  unfold outAt
  rw [outBlk_eq, show inBlk i = ix2 (⟨(i 0).val % 256, Nat.mod_lt _ (by decide)⟩ : Fin 256) (⟨(i 1).val, (i 1).isLt⟩ : Fin 256) from by
    funext a; fin_cases a <;> rfl, own_apply]

/-! ## The whole product -/

/-- Block `c` of the whole product's columns is the result of device `c`. -/
theorem outAt_block (x w : FVec Ideal ⟨2, ![2048, 2048]⟩ .bf16)
    (hx : ∀ c : Dev nD, xOf m c = Layout.block ⟨2, ![256, 2048]⟩ ⟨2, ![2048, 2048]⟩ 0 8 c x) (hw : ∀ c : Dev nD, wOf m c = w) (c : Dev nD) :
    (outAt m ρ c : (⟨2, ![2048, 256]⟩ : Shape).Idx → EReal)
      = Layout.block ⟨2, ![2048, 256]⟩ ⟨2, ![2048, 2048]⟩ 1 8 c (Host.dotGeneral (DotDims.plain 2048 2048 2048) none x w) := by
  funext i
  have hc : c.val < 8 := c.isLt
  have h0 : (i 0).val < 2048 := (i 0).isLt
  have h1 : (i 1).val < 256 := (i 1).isLt
  rw [outAt_apply, Layout.block_apply, show (Layout.Tiles.idx (S := ⟨2, ![2048, 256]⟩) (T := ⟨2, ![2048, 2048]⟩) (a := 1) (k := 8) (by decide) c i)
      = ix2 ⟨(i 0).val, h0⟩ ⟨256 * c.val + (i 1).val, by omega⟩ from by
    funext a
    apply Fin.ext
    fin_cases a
    · rfl
    · show c.val * 256 + (i 1).val = 256 * c.val + (i 1).val
      omega]
  rw [StackMember.dotGeneral_plain_apply]
  show @Eq EReal _ _
  refine Finset.sum_congr rfl fun k _ => ?_
  rw [hw, hx, Layout.block_apply]
  congr 2
  funext a
  apply Fin.ext
  fin_cases a
  · show (i 0).val / 256 * 256 + (i 0).val % 256 = (i 0).val
    omega
  · rfl

end Reals

end Cert.BlocksProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two printed kernels have the same body, -/
theorem bodies_eq : Cert.Kernel.defs₀ (F := Bits) = Cert.KernelIdeal.defs₀ (F := Bits) := by
  funext p
  cases p with
  | tc =>
    funext l a
    match l, a with
    | ⟨0, _⟩, (t, s) => rfl
  | scScalar _ => rfl
  | scVector _ _ => rfl

/-- and are pipelined in the same way. -/
theorem defs_eq : Cert.Kernel.defs (F := Bits) = Cert.KernelIdeal.defs (F := Bits) :=
  congrArg (Pipeline.defs (Cert.KernelIdeal.pcfgs (F := Bits))) bodies_eq

/-- The kernel, over the float words, ends with its arguments unchanged and every counter at zero. -/
theorem frame_kernel : Cert.quiescent_Kernel := fun m ρ _ => by
  rw [defs_eq]
  exact (θ_run Cert.KernelIdeal.defs _ _).mono (fun _ h => ⟨fun c => (h.1 c).2, h.2⟩) (Cert.BlocksProof.run_arrays (F := Bits) m ρ)

/-- So does the kernel over the extended reals, -/
theorem frame_kernelIdeal : Cert.quiescent_KernelIdeal := fun m ρ _ =>
  (θ_run Cert.KernelIdeal.defs _ _).mono (fun _ h => ⟨fun c => (h.1 c).2, h.2⟩) (Cert.BlocksProof.run_arrays (F := Ideal) m ρ)

/-- and the reference, which has no semaphore at all. -/
theorem frame_reference : Cert.quiescent_ReferenceIdeal := fun m ρ _ =>
  (θ_run Cert.ReferenceIdeal.defs _ _).mono (fun _ h => ⟨fun c => (h c).2, funext fun g => nomatch g.2⟩) (Cert.ReferenceIdeal.Value.run (F := Ideal) m ρ)

/-- Device `c`'s result is block `c` of the columns of the reference's. -/
theorem value : Cert.algebraic_KernelIdeal_ReferenceIdeal := fun m ρ m' ρ' _ hargs =>
  ⟨_, (θ_run Cert.KernelIdeal.defs _ _).mono
      (fun _ h c => ⟨(h.1 c).1.trans (Cert.BlocksProof.outAt_block ρ m _ _ (fun d => (hargs d).1) (fun d => (hargs d).2) c), (h.1 c).2⟩)
      (Cert.BlocksProof.run_arrays (F := Ideal) m ρ),
    (θ_run Cert.ReferenceIdeal.defs _ _).mono (fun _ h => ⟨(h 0).1, (h 0).2⟩) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
